-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FourierOut (m : (ℓ : Loc Cert.FourierOut.nD Cert.FourierOut.τ Cert.FourierOut.sig) → Buf (Elt Bits) ℓ) : Prop :=
  True

def Pre_FourierOutIdeal (m : (ℓ : Loc Cert.FourierOutIdeal.nD Cert.FourierOutIdeal.τ Cert.FourierOutIdeal.sig) → Buf (Elt Ideal) ℓ) : Prop :=
  True

def Pre_FourierOutRefIdeal (m : (ℓ : Loc Cert.FourierOutRefIdeal.nD Cert.FourierOutRefIdeal.τ Cert.FourierOutRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_FourierOut [hFourierOut : Cert.FourierOut.Facts] : Prop :=
  ∀ (m : (ℓ : Loc Cert.FourierOut.nD Cert.FourierOut.τ Cert.FourierOut.sig) → Buf (Elt Bits) ℓ) (g : Dev Cert.FourierOut.nD → PrngReg), Pre_FourierOut m →
    θ_run (Cert.FourierOut.defs (F := Bits)) (onTc (τ := Cert.FourierOut.τ) (Cert.FourierOut.main (F := Bits))) ⟨m, fun _ => 0, g⟩ (fun r => (∀ c : Dev Cert.FourierOut.nD,
      r.2.mem ((c.tc : Thread Cert.FourierOut.nD Cert.FourierOut.τ).loc Cert.FourierOut.main_arg0) = m ((c.tc : Thread Cert.FourierOut.nD Cert.FourierOut.τ).loc Cert.FourierOut.main_arg0)
      ∧ r.2.mem ((c.tc : Thread Cert.FourierOut.nD Cert.FourierOut.τ).loc Cert.FourierOut.main_arg1) = m ((c.tc : Thread Cert.FourierOut.nD Cert.FourierOut.τ).loc Cert.FourierOut.main_arg1)
      ∧ r.2.mem ((c.tc : Thread Cert.FourierOut.nD Cert.FourierOut.τ).loc Cert.FourierOut.main_arg2) = m ((c.tc : Thread Cert.FourierOut.nD Cert.FourierOut.τ).loc Cert.FourierOut.main_arg2)
      ∧ r.2.mem ((c.tc : Thread Cert.FourierOut.nD Cert.FourierOut.τ).loc Cert.FourierOut.main_arg3) = m ((c.tc : Thread Cert.FourierOut.nD Cert.FourierOut.τ).loc Cert.FourierOut.main_arg3))
      ∧ r.2.sem = fun _ => 0)

def quiescent_FourierOutIdeal [hFourierOutIdeal : Cert.FourierOutIdeal.Facts] : Prop :=
  ∀ (m : (ℓ : Loc Cert.FourierOutIdeal.nD Cert.FourierOutIdeal.τ Cert.FourierOutIdeal.sig) → Buf (Elt Ideal) ℓ) (g : Dev Cert.FourierOutIdeal.nD → PrngReg), Pre_FourierOutIdeal m →
    θ_run (Cert.FourierOutIdeal.defs (F := Ideal)) (onTc (τ := Cert.FourierOutIdeal.τ) (Cert.FourierOutIdeal.main (F := Ideal))) ⟨m, fun _ => 0, g⟩ (fun r => (∀ c : Dev Cert.FourierOutIdeal.nD,
      r.2.mem ((c.tc : Thread Cert.FourierOutIdeal.nD Cert.FourierOutIdeal.τ).loc Cert.FourierOutIdeal.main_arg0) = m ((c.tc : Thread Cert.FourierOutIdeal.nD Cert.FourierOutIdeal.τ).loc Cert.FourierOutIdeal.main_arg0)
      ∧ r.2.mem ((c.tc : Thread Cert.FourierOutIdeal.nD Cert.FourierOutIdeal.τ).loc Cert.FourierOutIdeal.main_arg1) = m ((c.tc : Thread Cert.FourierOutIdeal.nD Cert.FourierOutIdeal.τ).loc Cert.FourierOutIdeal.main_arg1)
      ∧ r.2.mem ((c.tc : Thread Cert.FourierOutIdeal.nD Cert.FourierOutIdeal.τ).loc Cert.FourierOutIdeal.main_arg2) = m ((c.tc : Thread Cert.FourierOutIdeal.nD Cert.FourierOutIdeal.τ).loc Cert.FourierOutIdeal.main_arg2)
      ∧ r.2.mem ((c.tc : Thread Cert.FourierOutIdeal.nD Cert.FourierOutIdeal.τ).loc Cert.FourierOutIdeal.main_arg3) = m ((c.tc : Thread Cert.FourierOutIdeal.nD Cert.FourierOutIdeal.τ).loc Cert.FourierOutIdeal.main_arg3))
      ∧ r.2.sem = fun _ => 0)

def quiescent_FourierOutRefIdeal [hFourierOutRefIdeal : Cert.FourierOutRefIdeal.Facts] : Prop :=
  ∀ (m : (ℓ : Loc Cert.FourierOutRefIdeal.nD Cert.FourierOutRefIdeal.τ Cert.FourierOutRefIdeal.sig) → Buf (Elt Ideal) ℓ) (g : Dev Cert.FourierOutRefIdeal.nD → PrngReg), Pre_FourierOutRefIdeal m →
    θ_run (Cert.FourierOutRefIdeal.defs (F := Ideal)) (onTc (τ := Cert.FourierOutRefIdeal.τ) (Cert.FourierOutRefIdeal.main (F := Ideal))) ⟨m, fun _ => 0, g⟩ (fun r => (∀ c : Dev Cert.FourierOutRefIdeal.nD,
      r.2.mem ((c.tc : Thread Cert.FourierOutRefIdeal.nD Cert.FourierOutRefIdeal.τ).loc Cert.FourierOutRefIdeal.main_arg0) = m ((c.tc : Thread Cert.FourierOutRefIdeal.nD Cert.FourierOutRefIdeal.τ).loc Cert.FourierOutRefIdeal.main_arg0)
      ∧ r.2.mem ((c.tc : Thread Cert.FourierOutRefIdeal.nD Cert.FourierOutRefIdeal.τ).loc Cert.FourierOutRefIdeal.main_arg1) = m ((c.tc : Thread Cert.FourierOutRefIdeal.nD Cert.FourierOutRefIdeal.τ).loc Cert.FourierOutRefIdeal.main_arg1)
      ∧ r.2.mem ((c.tc : Thread Cert.FourierOutRefIdeal.nD Cert.FourierOutRefIdeal.τ).loc Cert.FourierOutRefIdeal.main_arg2) = m ((c.tc : Thread Cert.FourierOutRefIdeal.nD Cert.FourierOutRefIdeal.τ).loc Cert.FourierOutRefIdeal.main_arg2)
      ∧ r.2.mem ((c.tc : Thread Cert.FourierOutRefIdeal.nD Cert.FourierOutRefIdeal.τ).loc Cert.FourierOutRefIdeal.main_arg3) = m ((c.tc : Thread Cert.FourierOutRefIdeal.nD Cert.FourierOutRefIdeal.τ).loc Cert.FourierOutRefIdeal.main_arg3))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v11_0)) (v1 : (c : Dev Cert.SguIdeal.nD) → Buf (Elt Ideal) ((c.tc : Thread Cert.SguIdeal.nD Cert.SguIdeal.τ).loc Cert.SguIdeal.main_v11_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v11_0) = v0 c
          ∧ r.2.mem ((c.tc : Thread Cert.SguIdeal.nD Cert.SguIdeal.τ).loc Cert.SguIdeal.main_v11_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v63) = v0 c
          ∧ r.2.mem ((c.tc : Thread Cert.SguRefIdeal.nD Cert.SguRefIdeal.τ).loc Cert.SguRefIdeal.main_v65) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v5_0)) (v1 : (c : Dev Cert.FfnFirstIdeal.nD) → Buf (Elt Ideal) ((c.tc : Thread Cert.FfnFirstIdeal.nD Cert.FfnFirstIdeal.τ).loc Cert.FfnFirstIdeal.main_v5_1)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v5_0) = v0 c
          ∧ r.2.mem ((c.tc : Thread Cert.FfnFirstIdeal.nD Cert.FfnFirstIdeal.τ).loc Cert.FfnFirstIdeal.main_v5_1) = v1 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v35) = v0 c
          ∧ r.2.mem ((c.tc : Thread Cert.FfnFirstRefIdeal.nD Cert.FfnFirstRefIdeal.τ).loc Cert.FfnFirstRefIdeal.main_v37) = v1 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_FourierOut_FourierOutIdeal : Prop :=
  True

def algebraic_FourierOutIdeal_FourierOutRefIdeal [hFourierOutIdeal : Cert.FourierOutIdeal.Facts] [hFourierOutRefIdeal : Cert.FourierOutRefIdeal.Facts] : Prop :=
  ∀ (m : (ℓ : Loc Cert.FourierOutIdeal.nD Cert.FourierOutIdeal.τ Cert.FourierOutIdeal.sig) → Buf (Elt Ideal) ℓ) (g : Dev Cert.FourierOutIdeal.nD → PrngReg)
    (m' : (ℓ : Loc Cert.FourierOutRefIdeal.nD Cert.FourierOutRefIdeal.τ Cert.FourierOutRefIdeal.sig) → Buf (Elt Ideal) ℓ) (g' : Dev Cert.FourierOutRefIdeal.nD → PrngReg), Pre_FourierOutIdeal m →
    (∀ c : Dev Cert.FourierOutIdeal.nD,
      m' ((c.tc : Thread Cert.FourierOutRefIdeal.nD Cert.FourierOutRefIdeal.τ).loc Cert.FourierOutRefIdeal.main_arg0) = m ((c.tc : Thread Cert.FourierOutIdeal.nD Cert.FourierOutIdeal.τ).loc Cert.FourierOutIdeal.main_arg0)
      ∧ m' ((c.tc : Thread Cert.FourierOutRefIdeal.nD Cert.FourierOutRefIdeal.τ).loc Cert.FourierOutRefIdeal.main_arg1) = m ((c.tc : Thread Cert.FourierOutIdeal.nD Cert.FourierOutIdeal.τ).loc Cert.FourierOutIdeal.main_arg1)
      ∧ m' ((c.tc : Thread Cert.FourierOutRefIdeal.nD Cert.FourierOutRefIdeal.τ).loc Cert.FourierOutRefIdeal.main_arg2) = m ((c.tc : Thread Cert.FourierOutIdeal.nD Cert.FourierOutIdeal.τ).loc Cert.FourierOutIdeal.main_arg2)
      ∧ m' ((c.tc : Thread Cert.FourierOutRefIdeal.nD Cert.FourierOutRefIdeal.τ).loc Cert.FourierOutRefIdeal.main_arg3) = m ((c.tc : Thread Cert.FourierOutIdeal.nD Cert.FourierOutIdeal.τ).loc Cert.FourierOutIdeal.main_arg3)) →
    ∃ (v0 : (c : Dev Cert.FourierOutIdeal.nD) → Buf (Elt Ideal) ((c.tc : Thread Cert.FourierOutIdeal.nD Cert.FourierOutIdeal.τ).loc Cert.FourierOutIdeal.main_v3)),
      θ_run (Cert.FourierOutIdeal.defs (F := Ideal)) (onTc (τ := Cert.FourierOutIdeal.τ) (Cert.FourierOutIdeal.main (F := Ideal))) ⟨m, fun _ => 0, g⟩ (fun r => ∀ c : Dev Cert.FourierOutIdeal.nD,
          r.2.mem ((c.tc : Thread Cert.FourierOutIdeal.nD Cert.FourierOutIdeal.τ).loc Cert.FourierOutIdeal.main_v3) = v0 c
          ∧ r.2.mem ((c.tc : Thread Cert.FourierOutIdeal.nD Cert.FourierOutIdeal.τ).loc Cert.FourierOutIdeal.main_arg0) = m ((c.tc : Thread Cert.FourierOutIdeal.nD Cert.FourierOutIdeal.τ).loc Cert.FourierOutIdeal.main_arg0)
          ∧ r.2.mem ((c.tc : Thread Cert.FourierOutIdeal.nD Cert.FourierOutIdeal.τ).loc Cert.FourierOutIdeal.main_arg1) = m ((c.tc : Thread Cert.FourierOutIdeal.nD Cert.FourierOutIdeal.τ).loc Cert.FourierOutIdeal.main_arg1)
          ∧ r.2.mem ((c.tc : Thread Cert.FourierOutIdeal.nD Cert.FourierOutIdeal.τ).loc Cert.FourierOutIdeal.main_arg2) = m ((c.tc : Thread Cert.FourierOutIdeal.nD Cert.FourierOutIdeal.τ).loc Cert.FourierOutIdeal.main_arg2)
          ∧ r.2.mem ((c.tc : Thread Cert.FourierOutIdeal.nD Cert.FourierOutIdeal.τ).loc Cert.FourierOutIdeal.main_arg3) = m ((c.tc : Thread Cert.FourierOutIdeal.nD Cert.FourierOutIdeal.τ).loc Cert.FourierOutIdeal.main_arg3))
      ∧ θ_run (Cert.FourierOutRefIdeal.defs (F := Ideal)) (onTc (τ := Cert.FourierOutRefIdeal.τ) (Cert.FourierOutRefIdeal.main (F := Ideal))) ⟨m', fun _ => 0, g'⟩ (fun r => ∀ c : Dev Cert.FourierOutRefIdeal.nD,
          r.2.mem ((c.tc : Thread Cert.FourierOutRefIdeal.nD Cert.FourierOutRefIdeal.τ).loc Cert.FourierOutRefIdeal.main_v8) = v0 c
          ∧ r.2.mem ((c.tc : Thread Cert.FourierOutRefIdeal.nD Cert.FourierOutRefIdeal.τ).loc Cert.FourierOutRefIdeal.main_arg0) = m' ((c.tc : Thread Cert.FourierOutRefIdeal.nD Cert.FourierOutRefIdeal.τ).loc Cert.FourierOutRefIdeal.main_arg0)
          ∧ r.2.mem ((c.tc : Thread Cert.FourierOutRefIdeal.nD Cert.FourierOutRefIdeal.τ).loc Cert.FourierOutRefIdeal.main_arg1) = m' ((c.tc : Thread Cert.FourierOutRefIdeal.nD Cert.FourierOutRefIdeal.τ).loc Cert.FourierOutRefIdeal.main_arg1)
          ∧ r.2.mem ((c.tc : Thread Cert.FourierOutRefIdeal.nD Cert.FourierOutRefIdeal.τ).loc Cert.FourierOutRefIdeal.main_arg2) = m' ((c.tc : Thread Cert.FourierOutRefIdeal.nD Cert.FourierOutRefIdeal.τ).loc Cert.FourierOutRefIdeal.main_arg2)
          ∧ r.2.mem ((c.tc : Thread Cert.FourierOutRefIdeal.nD Cert.FourierOutRefIdeal.τ).loc Cert.FourierOutRefIdeal.main_arg3) = m' ((c.tc : Thread Cert.FourierOutRefIdeal.nD Cert.FourierOutRefIdeal.τ).loc Cert.FourierOutRefIdeal.main_arg3))

def preserves_Fourier_FourierIdeal : Prop :=
  True

def Claim : Prop :=
  ∃ (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hFfnFirst : Cert.FfnFirst.Facts) (hFfnFirstIdeal : Cert.FfnFirstIdeal.Facts) (hFfnFirstRefIdeal : Cert.FfnFirstRefIdeal.Facts) (hMixOut : Cert.MixOut.Facts) (hMixOutIdeal : Cert.MixOutIdeal.Facts) (hMixOutRefIdeal : Cert.MixOutRefIdeal.Facts) (hFourierOut : Cert.FourierOut.Facts) (hFourierOutIdeal : Cert.FourierOutIdeal.Facts) (hFourierOutRefIdeal : Cert.FourierOutRefIdeal.Facts) (hFourier : Cert.Fourier.Facts) (hFourierIdeal : Cert.FourierIdeal.Facts),
    quiescent_Sgu (hSgu := hSgu)
    ∧ quiescent_SguIdeal (hSguIdeal := hSguIdeal)
    ∧ quiescent_SguRefIdeal (hSguRefIdeal := hSguRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FourierOut (hFourierOut := hFourierOut)
    ∧ quiescent_FourierOutIdeal (hFourierOutIdeal := hFourierOutIdeal)
    ∧ quiescent_FourierOutRefIdeal (hFourierOutRefIdeal := hFourierOutRefIdeal)
    ∧ quiescent_Fourier (hFourier := hFourier)
    ∧ quiescent_FourierIdeal (hFourierIdeal := hFourierIdeal)
    ∧ preserves_Sgu_SguIdeal
    ∧ algebraic_SguIdeal_SguRefIdeal (hSguIdeal := hSguIdeal) (hSguRefIdeal := hSguRefIdeal)
    ∧ preserves_Ffn_FfnIdeal
    ∧ algebraic_FfnIdeal_FfnRefIdeal (hFfnIdeal := hFfnIdeal) (hFfnRefIdeal := hFfnRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_MixOut_MixOutIdeal
    ∧ algebraic_MixOutIdeal_MixOutRefIdeal (hMixOutIdeal := hMixOutIdeal) (hMixOutRefIdeal := hMixOutRefIdeal)
    ∧ preserves_FourierOut_FourierOutIdeal
    ∧ algebraic_FourierOutIdeal_FourierOutRefIdeal (hFourierOutIdeal := hFourierOutIdeal) (hFourierOutRefIdeal := hFourierOutRefIdeal)
    ∧ preserves_Fourier_FourierIdeal
-- ==== Sgu.lean ====
abbrev S4x2048x2048 : Shape := ⟨3, ![4, 2048, 2048]⟩
abbrev S2x2048 : Shape := ⟨2, ![2, 2048]⟩
abbrev S1x2048x4096 : Shape := ⟨3, ![1, 2048, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8192x2048 : Shape := ⟨2, ![8192, 2048]⟩
abbrev S1x2048 : Shape := ⟨2, ![1, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S8192x1024 : Shape := ⟨2, ![8192, 1024]⟩
abbrev S512x2048 : Shape := ⟨2, ![512, 2048]⟩
abbrev S1x2048x2048 : Shape := ⟨3, ![1, 2048, 2048]⟩
abbrev S512x1024 : Shape := ⟨2, ![512, 1024]⟩
abbrev S2048x2048 : Shape := ⟨2, ![2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 20
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x4096, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1024, .f32⟩
  | .hbm, ⟨11, _⟩ => ⟨S1024, .f32⟩
  | .hbm, ⟨12, _⟩ => ⟨S8x128x128, .f32⟩
  | .hbm, ⟨13, _⟩ => ⟨S8x128, .f32⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S128x8, .f32⟩
  | .hbm, ⟨18, _⟩ => ⟨S8192x1024, .bf16⟩
  | .hbm, ⟨19, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c8_i32 : BitVec 32 := 8#32
  let v40 : BitVec 32 := Scalar.addi c0_i32_20 c8_i32
  let c1_i32_21 : BitVec 32 := 1#32
  ⟨c0_i32_20, v40, c1_i32_21⟩
def k0_mult1 (k0_t1 : Fin k0_t1_loop.trips) : BitVec 32 :=
  let c0_i32_20 : BitVec 32 := 0#32
  let c1_i32_21 : BitVec 32 := 1#32
  let arg13 : BitVec 32 := Scf.iv c0_i32_20 c1_i32_21 k0_t1
  let c256_i32 : BitVec 32 := 256#32
  let v87 : BitVec 32 := Scalar.muli arg13 c256_i32
  v87
def k0_off1 (k0_t1 : Fin k0_t1_loop.trips) : Fin 3 → Nat :=
  let c0_48 : Index := 0#32
  let c0_i32_20 : BitVec 32 := 0#32
  let c1_i32_21 : BitVec 32 := 1#32
  let arg13 : BitVec 32 := Scf.iv c0_i32_20 c1_i32_21 k0_t1
  let c256_i32 : BitVec 32 := 256#32
  let v87 : BitVec 32 := Scalar.muli arg13 c256_i32
  let v88 : BitVec 32 := v87
  let v89 : Index := Scalar.indexCast v88
  let c0_49 : Index := 0#32
  ![0, v89.toNat, 0]
def k0_off2 (k0_t1 : Fin k0_t1_loop.trips) : Fin 2 → Nat :=
  let c0_i32_20 : BitVec 32 := 0#32
  let c1_i32_21 : BitVec 32 := 1#32
  let arg13 : BitVec 32 := Scf.iv c0_i32_20 c1_i32_21 k0_t1
  let c256_i32 : BitVec 32 := 256#32
  let v87 : BitVec 32 := Scalar.muli arg13 c256_i32
  let v88 : BitVec 32 := v87
  let v93 : Index := Scalar.indexCast v88
  let c0_50 : Index := 0#32
  ![v93.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c16_i32_9 : BitVec 32 := 16#32
  let v21 : BitVec 1 := Scalar.cmpi .slt arg0 c16_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_cond4 (i : grid0.Coords) : BitVec 1 :=
  let arg0 : BitVec 32 := BitVec.ofNat 32 (i 0).val
  let c16_i32_18 : BitVec 32 := 16#32
  let v37 : BitVec 1 := Scalar.cmpi .eq arg0 c16_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguRefIdeal.lean ====
abbrev S4x2048x2048 : Shape := ⟨3, ![4, 2048, 2048]⟩
abbrev S2x2048 : Shape := ⟨2, ![2, 2048]⟩
abbrev S1x2048x4096 : Shape := ⟨3, ![1, 2048, 4096]⟩
abbrev S1x1024 : Shape := ⟨2, ![1, 1024]⟩
abbrev S1x8x128x128 : Shape := ⟨4, ![1, 8, 128, 128]⟩
abbrev S1x8x128 : Shape := ⟨3, ![1, 8, 128]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x4096 : Shape := ⟨2, ![2048, 4096]⟩
abbrev S4x2048x4096 : Shape := ⟨3, ![4, 2048, 4096]⟩
abbrev S1024 : Shape := ⟨1, ![1024]⟩
abbrev S8x128x128 : Shape := ⟨3, ![8, 128, 128]⟩
abbrev S8x128 : Shape := ⟨2, ![8, 128]⟩
abbrev S4x2048x1024 : Shape := ⟨3, ![4, 2048, 1024]⟩
abbrev S1x1x1024 : Shape := ⟨3, ![1, 1, 1024]⟩
abbrev S4x16x128x8x128 : Shape := ⟨5, ![4, 16, 128, 8, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S8192x1024 : Shape := ⟨2, ![8192, 1024]⟩
abbrev S8192x2048 : Shape := ⟨2, ![8192, 2048]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x4096, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x2048, .f32⟩
  | .hbm, ⟨8, _⟩ => ⟨S2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S2048x4096, .f32⟩
  | .hbm, ⟨26, _⟩ => ⟨S4x2048x4096, .f32⟩
  | .hbm, ⟨27, _⟩ => ⟨S4x2048x2048, .f32⟩
  | .hbm, ⟨28, _⟩ => ⟨S1024, .f32⟩
  | .hbm, ⟨29, _⟩ => ⟨S1024, .f32⟩
  | .hbm, ⟨30, _⟩ => ⟨S8x128x128, .f32⟩
  | .hbm, ⟨31, _⟩ => ⟨S8x128, .f32⟩
  | .hbm, ⟨32, _⟩ => ⟨S_, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x1024, .f32⟩
  | .hbm, ⟨63, _⟩ => ⟨S4x2048x1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | .hbm, ⟨67, _⟩ => ⟨S1x1x1024, .f32⟩
  | .hbm, ⟨68, _⟩ => ⟨S4x2048x1024, .f32⟩
  | .hbm, ⟨69, _⟩ => ⟨S4x2048x1024, .f32⟩
  | .hbm, ⟨70, _⟩ => ⟨S4x16x128x8x128, .f32⟩
  | .hbm, ⟨71, _⟩ => ⟨S8x4x16x128x128, .f32⟩
  | .hbm, ⟨72, _⟩ => ⟨S4x16x128x8x128, .f32⟩
  | .hbm, ⟨73, _⟩ => ⟨S128x8, .f32⟩
  | .hbm, ⟨74, _⟩ => ⟨S1x1x128x8x1, .f32⟩
  | .hbm, ⟨75, _⟩ => ⟨S4x16x128x8x128, .f32⟩
  | .hbm, ⟨76, _⟩ => ⟨S4x16x128x8x128, .f32⟩
  | .hbm, ⟨77, _⟩ => ⟨S4x2048x1024, .f32⟩
  | .hbm, ⟨78, _⟩ => ⟨S4x2048x1024, .f32⟩
  | .hbm, ⟨79, _⟩ => ⟨S8192x1024, .f32⟩
  | .hbm, ⟨80, _⟩ => ⟨S8192x1024, .bf16⟩
  | .hbm, ⟨81, _⟩ => ⟨S8192x2048, .f32⟩
  | .hbm, ⟨82, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Ffn.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S8192x2048 : Shape := ⟨2, ![8192, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S2048x512 : Shape := ⟨2, ![2048, 512]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_9 : BitVec 32 := 0#32
  c0_i32_9
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v20 : BitVec 32 := Scalar.muli arg0 c1024_i32
  v20
def k0_off1 (i : grid0.Coords) : Fin 2 → Nat :=
  let arg0 : BitVec 32 := BitVec.ofNat 32 (i 0).val
  let c1024_i32 : BitVec 32 := 1024#32
  let v20 : BitVec 32 := Scalar.muli arg0 c1024_i32
  let v21 : BitVec 32 := v20
  let c0_i32_9 : BitVec 32 := 0#32
  ![v21.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_9 : BitVec 32 := 1#32
  let v20 : BitVec 32 := Scalar.addi arg0 c1_i32_9
  let c1024_i32 : BitVec 32 := 1024#32
  let v21 : BitVec 32 := Scalar.muli v20 c1024_i32
  v21
def k0_off2 (i : grid0.Coords) : Fin 2 → Nat :=
  let arg0 : BitVec 32 := BitVec.ofNat 32 (i 0).val
  let c1_i32_9 : BitVec 32 := 1#32
  let v20 : BitVec 32 := Scalar.addi arg0 c1_i32_9
  let c1024_i32 : BitVec 32 := 1024#32
  let v21 : BitVec 32 := Scalar.muli v20 c1024_i32
  let v22 : BitVec 32 := v21
  let c0_i32_10 : BitVec 32 := 0#32
  ![v22.toNat, 0]
def k0_cond4 (i : grid0.Coords) : BitVec 1 :=
  let arg1 : BitVec 32 := BitVec.ofNat 32 (i 1).val
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .ne v15 c0_i32_7
  v16

def k0_cond5 (i : grid0.Coords) : BitVec 1 :=
  let arg1 : BitVec 32 := BitVec.ofNat 32 (i 1).val
  let c10_i32 : BitVec 32 := 10#32
  let v17 : BitVec 1 := Scalar.cmpi .eq arg1 c10_i32
  let v18 : BitVec 32 := Scalar.extui v17
  let c0_i32_8 : BitVec 32 := 0#32
  let v19 : BitVec 1 := Scalar.cmpi .ne v18 c0_i32_8
  v19

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x2048, .f32⟩
  | .hbm, ⟨56, _⟩ => ⟨S4x2048x2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== FfnFirst.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S8192x2048 : Shape := ⟨2, ![8192, 2048]⟩
abbrev S1x2048 : Shape := ⟨2, ![1, 2048]⟩
abbrev S8192x128 : Shape := ⟨2, ![8192, 128]⟩
abbrev S1x2048x512 : Shape := ⟨3, ![1, 2048, 512]⟩
abbrev S1x512x2048 : Shape := ⟨3, ![1, 512, 2048]⟩
abbrev S1024x2048 : Shape := ⟨2, ![1024, 2048]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S2048x512 : Shape := ⟨2, ![2048, 512]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x128, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_10 : BitVec 32 := 0#32
  c0_i32_10
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v22 : BitVec 32 := Scalar.muli arg0 c1024_i32
  v22
def k0_off1 (i : grid0.Coords) : Fin 2 → Nat :=
  let arg0 : BitVec 32 := BitVec.ofNat 32 (i 0).val
  let c1024_i32 : BitVec 32 := 1024#32
  let v22 : BitVec 32 := Scalar.muli arg0 c1024_i32
  let v23 : BitVec 32 := v22
  let c0_i32_10 : BitVec 32 := 0#32
  ![v23.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_10 : BitVec 32 := 1#32
  let v22 : BitVec 32 := Scalar.addi arg0 c1_i32_10
  let c1024_i32 : BitVec 32 := 1024#32
  let v23 : BitVec 32 := Scalar.muli v22 c1024_i32
  v23
def k0_off2 (i : grid0.Coords) : Fin 2 → Nat :=
  let arg0 : BitVec 32 := BitVec.ofNat 32 (i 0).val
  let c1_i32_10 : BitVec 32 := 1#32
  let v22 : BitVec 32 := Scalar.addi arg0 c1_i32_10
  let c1024_i32 : BitVec 32 := 1024#32
  let v23 : BitVec 32 := Scalar.muli v22 c1024_i32
  let v24 : BitVec 32 := v23
  let c0_i32_11 : BitVec 32 := 0#32
  ![v24.toNat, 0]
def k0_cond4 (i : grid0.Coords) : BitVec 1 :=
  let arg1 : BitVec 32 := BitVec.ofNat 32 (i 1).val
  let c0_i32_6 : BitVec 32 := 0#32
  let v14 : BitVec 1 := Scalar.cmpi .sgt arg1 c0_i32_6
  let c10_i32 : BitVec 32 := 10#32
  let v15 : BitVec 1 := Scalar.cmpi .slt arg1 c10_i32
  let v16 : BitVec 1 := Scalar.andi v14 v15
  let v17 : BitVec 32 := Scalar.extui v16
  let c0_i32_7 : BitVec 32 := 0#32
  let v18 : BitVec 1 := Scalar.cmpi .ne v17 c0_i32_7
  v18

def k0_cond5 (i : grid0.Coords) : BitVec 1 :=
  let arg1 : BitVec 32 := BitVec.ofNat 32 (i 1).val
  let c10_i32_8 : BitVec 32 := 10#32
  let v19 : BitVec 1 := Scalar.cmpi .eq arg1 c10_i32_8
  let v20 : BitVec 32 := Scalar.extui v19
  let c0_i32_9 : BitVec 32 := 0#32
  let v21 : BitVec 1 := Scalar.cmpi .ne v20 c0_i32_9
  v21

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFirstRefIdeal.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩
abbrev S4x2048x128 : Shape := ⟨3, ![4, 2048, 128]⟩
abbrev S8192x128 : Shape := ⟨2, ![8192, 128]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S8192x2048, .f32⟩
  | .hbm, ⟨56, _⟩ => ⟨S4x2048x128, .f32⟩
  | .hbm, ⟨57, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== MixOut.lean ====
abbrev S4x2048x1024 : Shape := ⟨3, ![4, 2048, 1024]⟩
abbrev S8192x1024 : Shape := ⟨2, ![8192, 1024]⟩
abbrev S2048x2048 : Shape := ⟨2, ![2048, 2048]⟩
abbrev S4x2048x2048 : Shape := ⟨3, ![4, 2048, 2048]⟩
abbrev S8192x2048 : Shape := ⟨2, ![8192, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x1024, .bf16⟩
  | .hbm, ⟨1, _⟩ => ⟨S8192x1024, .bf16⟩
  | .hbm, ⟨2, _⟩ => ⟨S2048x2048, .bf16⟩
  | .hbm, ⟨3, _⟩ => ⟨S4x2048x2048, .f32⟩
  | .hbm, ⟨4, _⟩ => ⟨S8192x1024, .bf16⟩
  | .hbm, ⟨5, _⟩ => ⟨S8192x2048, .f32⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixOutRefIdeal.lean ====
abbrev S4x2048x1024 : Shape := ⟨3, ![4, 2048, 1024]⟩
abbrev S8192x1024 : Shape := ⟨2, ![8192, 1024]⟩
abbrev S2048x2048 : Shape := ⟨2, ![2048, 2048]⟩
abbrev S4x2048x2048 : Shape := ⟨3, ![4, 2048, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S8192x1024, .bf16⟩
  | .hbm, ⟨2, _⟩ => ⟨S2048x2048, .bf16⟩
  | .hbm, ⟨3, _⟩ => ⟨S4x2048x2048, .f32⟩
  | .hbm, ⟨4, _⟩ => ⟨S4x2048x1024, .bf16⟩
  | .hbm, ⟨5, _⟩ => ⟨S4x2048x2048, .bf16⟩
  | .hbm, ⟨6, _⟩ => ⟨S4x2048x2048, .f32⟩
  | .hbm, ⟨7, _⟩ => ⟨S2048x2048, .f32⟩
  | .hbm, ⟨8, _⟩ => ⟨S4x2048x2048, .f32⟩
  | .hbm, ⟨9, _⟩ => ⟨S4x2048x2048, .f32⟩
  | .hbm, ⟨10, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FourierOut.lean ====
abbrev S4x2048x2048 : Shape := ⟨3, ![4, 2048, 2048]⟩
abbrev S2048x2048 : Shape := ⟨2, ![2048, 2048]⟩
abbrev S1x2048 : Shape := ⟨2, ![1, 2048]⟩
abbrev S8192x2048 : Shape := ⟨2, ![8192, 2048]⟩
abbrev S2048 : Shape := ⟨1, ![2048]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .bf16⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FourierOutRefIdeal.lean ====
abbrev S4x2048x2048 : Shape := ⟨3, ![4, 2048, 2048]⟩
abbrev S2048x2048 : Shape := ⟨2, ![2048, 2048]⟩
abbrev S1x2048 : Shape := ⟨2, ![1, 2048]⟩
abbrev S8192x2048 : Shape := ⟨2, ![8192, 2048]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .bf16⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Fourier.lean ====
abbrev S8192x2048 : Shape := ⟨2, ![8192, 2048]⟩
abbrev S8192x128 : Shape := ⟨2, ![8192, 128]⟩
abbrev S2x2048 : Shape := ⟨2, ![2, 2048]⟩
abbrev S256 : Shape := ⟨1, ![256]⟩
abbrev S16 : Shape := ⟨1, ![16]⟩
abbrev S_ : Shape := ⟨0, ![]⟩
abbrev S16x1 : Shape := ⟨2, ![16, 1]⟩
abbrev S1x256 : Shape := ⟨2, ![1, 256]⟩
abbrev S16x256 : Shape := ⟨2, ![16, 256]⟩
abbrev S16x1x256 : Shape := ⟨3, ![16, 1, 256]⟩
abbrev S1x16x256 : Shape := ⟨3, ![1, 16, 256]⟩
abbrev S16x16x256 : Shape := ⟨3, ![16, 16, 256]⟩
abbrev S256x256 : Shape := ⟨2, ![256, 256]⟩
abbrev S512 : Shape := ⟨1, ![512]⟩
abbrev S32 : Shape := ⟨1, ![32]⟩
abbrev S32x1 : Shape := ⟨2, ![32, 1]⟩
abbrev S1x512 : Shape := ⟨2, ![1, 512]⟩
abbrev S32x512 : Shape := ⟨2, ![32, 512]⟩
abbrev S16x512 : Shape := ⟨2, ![16, 512]⟩
abbrev S32x1x512 : Shape := ⟨3, ![32, 1, 512]⟩
abbrev S1x16x512 : Shape := ⟨3, ![1, 16, 512]⟩
abbrev S32x16x512 : Shape := ⟨3, ![32, 16, 512]⟩
abbrev S512x512 : Shape := ⟨2, ![512, 512]⟩
abbrev S4 : Shape := ⟨1, ![4]⟩
abbrev S4x1 : Shape := ⟨2, ![4, 1]⟩
abbrev S4x512 : Shape := ⟨2, ![4, 512]⟩
abbrev S4x1x512 : Shape := ⟨3, ![4, 1, 512]⟩
abbrev S1x512x512 : Shape := ⟨3, ![1, 512, 512]⟩
abbrev S4x512x512 : Shape := ⟨3, ![4, 512, 512]⟩
abbrev S4x512x1024 : Shape := ⟨3, ![4, 512, 1024]⟩
abbrev S256x512 : Shape := ⟨2, ![256, 512]⟩
abbrev S4x2048x2048 : Shape := ⟨3, ![4, 2048, 2048]⟩
abbrev S4x2048x128 : Shape := ⟨3, ![4, 2048, 128]⟩
abbrev S1x2048 : Shape := ⟨2, ![1, 2048]⟩
abbrev S2048 : Shape := ⟨1, ![2048]⟩
abbrev S1x2048x1024 : Shape := ⟨3, ![1, 2048, 1024]⟩
abbrev S1x2048x128 : Shape := ⟨3, ![1, 2048, 128]⟩
abbrev S1x1024 : Shape := ⟨2, ![1, 1024]⟩
abbrev S4x1024x1024 : Shape := ⟨3, ![4, 1024, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1x512x256 : Shape := ⟨3, ![1, 512, 256]⟩
abbrev S512x256 : Shape := ⟨2, ![512, 256]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S4x128x1024 : Shape := ⟨3, ![4, 128, 1024]⟩
abbrev S128x4x1024 : Shape := ⟨3, ![128, 4, 1024]⟩

abbrev nBuf : Space → Nat
  | .hbm => 265
  | .vmem => 13
  | .smem => 0
  | _ => 0

abbrev hbmTy0_0 (i : Nat) : BufTy := match i % 128 with
  | 0 => ⟨S8192x2048, .f32⟩
  | 1 => ⟨S8192x128, .f32⟩
  | 2 => ⟨S2x2048, .f32⟩
  | 3 => ⟨S256, .i32⟩
  | 4 => ⟨S16, .i32⟩
  | 5 => ⟨S_, .i32⟩
  | 6 => ⟨S16, .i32⟩
  | 7 => ⟨S16, .i32⟩
  | 8 => ⟨S16x1, .i32⟩
  | 9 => ⟨S1x256, .i32⟩
  | 10 => ⟨S16x256, .i32⟩
  | 11 => ⟨S16x256, .i32⟩
  | 12 => ⟨S16x256, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S16x256, .i32⟩
  | 20 => ⟨S16x256, .i32⟩
  | 21 => ⟨S_, .i32⟩
  | 22 => ⟨S16x256, .i32⟩
  | 23 => ⟨S16x256, .i1⟩
  | 24 => ⟨S_, .i32⟩
  | 25 => ⟨S16x256, .i32⟩
  | 26 => ⟨S16x256, .i1⟩
  | 27 => ⟨S_, .i32⟩
  | 28 => ⟨S_, .i1⟩
  | 29 => ⟨S16x256, .i1⟩
  | 30 => ⟨S16x256, .i1⟩
  | 31 => ⟨S16x256, .i1⟩
  | 32 => ⟨S16x256, .i32⟩
  | 33 => ⟨S16x256, .i32⟩
  | 34 => ⟨S16x256, .i32⟩
  | 35 => ⟨S16x256, .f32⟩
  | 36 => ⟨S_, .f32⟩
  | 37 => ⟨S16x256, .f32⟩
  | 38 => ⟨S16x256, .f32⟩
  | 39 => ⟨S16x256, .f32⟩
  | 40 => ⟨S16x256, .f32⟩
  | 41 => ⟨S16, .i32⟩
  | 42 => ⟨S16x1, .i32⟩
  | 43 => ⟨S1x256, .i32⟩
  | 44 => ⟨S16x256, .i32⟩
  | 45 => ⟨S16x256, .i32⟩
  | 46 => ⟨S16x256, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S16x256, .i32⟩
  | 54 => ⟨S16x256, .i32⟩
  | 55 => ⟨S_, .i32⟩
  | 56 => ⟨S16x256, .i32⟩
  | 57 => ⟨S16x256, .i1⟩
  | 58 => ⟨S_, .i32⟩
  | 59 => ⟨S16x256, .i32⟩
  | 60 => ⟨S16x256, .i1⟩
  | 61 => ⟨S_, .i32⟩
  | 62 => ⟨S_, .i1⟩
  | 63 => ⟨S16x256, .i1⟩
  | 64 => ⟨S16x256, .i1⟩
  | 65 => ⟨S16x256, .i1⟩
  | 66 => ⟨S16x256, .i32⟩
  | 67 => ⟨S16x256, .i32⟩
  | 68 => ⟨S16x256, .i32⟩
  | 69 => ⟨S16x256, .f32⟩
  | 70 => ⟨S_, .f32⟩
  | 71 => ⟨S16x256, .f32⟩
  | 72 => ⟨S16x256, .f32⟩
  | 73 => ⟨S16x256, .f32⟩
  | 74 => ⟨S16x256, .f32⟩
  | 75 => ⟨S_, .f32⟩
  | 76 => ⟨S16x256, .f32⟩
  | 77 => ⟨S16x256, .f32⟩
  | 78 => ⟨S16x1x256, .f32⟩
  | 79 => ⟨S_, .f32⟩
  | 80 => ⟨S16x256, .f32⟩
  | 81 => ⟨S16x256, .f32⟩
  | 82 => ⟨S16x1x256, .f32⟩
  | 83 => ⟨S1x16x256, .f32⟩
  | 84 => ⟨S1x16x256, .f32⟩
  | 85 => ⟨S16x16x256, .f32⟩
  | 86 => ⟨S16x16x256, .f32⟩
  | 87 => ⟨S16x16x256, .f32⟩
  | 88 => ⟨S16x16x256, .f32⟩
  | 89 => ⟨S16x16x256, .f32⟩
  | 90 => ⟨S16x16x256, .f32⟩
  | 91 => ⟨S16x16x256, .f32⟩
  | 92 => ⟨S256x256, .f32⟩
  | 93 => ⟨S16x16x256, .f32⟩
  | 94 => ⟨S16x16x256, .f32⟩
  | 95 => ⟨S16x16x256, .f32⟩
  | 96 => ⟨S16x16x256, .f32⟩
  | 97 => ⟨S16x16x256, .f32⟩
  | 98 => ⟨S16x16x256, .f32⟩
  | 99 => ⟨S16x16x256, .f32⟩
  | 100 => ⟨S256x256, .f32⟩
  | 101 => ⟨S512, .i32⟩
  | 102 => ⟨S32, .i32⟩
  | 103 => ⟨S_, .i32⟩
  | 104 => ⟨S32, .i32⟩
  | 105 => ⟨S32, .i32⟩
  | 106 => ⟨S32x1, .i32⟩
  | 107 => ⟨S1x512, .i32⟩
  | 108 => ⟨S32x512, .i32⟩
  | 109 => ⟨S32x512, .i32⟩
  | 110 => ⟨S32x512, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S32x512, .i32⟩
  | 118 => ⟨S32x512, .i32⟩
  | 119 => ⟨S_, .i32⟩
  | 120 => ⟨S32x512, .i32⟩
  | 121 => ⟨S32x512, .i1⟩
  | 122 => ⟨S_, .i32⟩
  | 123 => ⟨S32x512, .i32⟩
  | 124 => ⟨S32x512, .i1⟩
  | 125 => ⟨S_, .i32⟩
  | 126 => ⟨S_, .i1⟩
  | 127 => ⟨S32x512, .i1⟩
  | _ => ⟨S8192x2048, .f32⟩

abbrev hbmTy0_1 (i : Nat) : BufTy := match i % 128 with
  | 0 => ⟨S32x512, .i1⟩
  | 1 => ⟨S32x512, .i1⟩
  | 2 => ⟨S32x512, .i32⟩
  | 3 => ⟨S32x512, .i32⟩
  | 4 => ⟨S32x512, .i32⟩
  | 5 => ⟨S32x512, .f32⟩
  | 6 => ⟨S_, .f32⟩
  | 7 => ⟨S32x512, .f32⟩
  | 8 => ⟨S32x512, .f32⟩
  | 9 => ⟨S32x512, .f32⟩
  | 10 => ⟨S32x512, .f32⟩
  | 11 => ⟨S16, .i32⟩
  | 12 => ⟨S16x1, .i32⟩
  | 13 => ⟨S1x512, .i32⟩
  | 14 => ⟨S16x512, .i32⟩
  | 15 => ⟨S16x512, .i32⟩
  | 16 => ⟨S16x512, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S16x512, .i32⟩
  | 24 => ⟨S16x512, .i32⟩
  | 25 => ⟨S_, .i32⟩
  | 26 => ⟨S16x512, .i32⟩
  | 27 => ⟨S16x512, .i1⟩
  | 28 => ⟨S_, .i32⟩
  | 29 => ⟨S16x512, .i32⟩
  | 30 => ⟨S16x512, .i1⟩
  | 31 => ⟨S_, .i32⟩
  | 32 => ⟨S_, .i1⟩
  | 33 => ⟨S16x512, .i1⟩
  | 34 => ⟨S16x512, .i1⟩
  | 35 => ⟨S16x512, .i1⟩
  | 36 => ⟨S16x512, .i32⟩
  | 37 => ⟨S16x512, .i32⟩
  | 38 => ⟨S16x512, .i32⟩
  | 39 => ⟨S16x512, .f32⟩
  | 40 => ⟨S_, .f32⟩
  | 41 => ⟨S16x512, .f32⟩
  | 42 => ⟨S16x512, .f32⟩
  | 43 => ⟨S16x512, .f32⟩
  | 44 => ⟨S16x512, .f32⟩
  | 45 => ⟨S_, .f32⟩
  | 46 => ⟨S32x512, .f32⟩
  | 47 => ⟨S32x512, .f32⟩
  | 48 => ⟨S32x1x512, .f32⟩
  | 49 => ⟨S_, .f32⟩
  | 50 => ⟨S32x512, .f32⟩
  | 51 => ⟨S32x512, .f32⟩
  | 52 => ⟨S32x1x512, .f32⟩
  | 53 => ⟨S1x16x512, .f32⟩
  | 54 => ⟨S1x16x512, .f32⟩
  | 55 => ⟨S32x16x512, .f32⟩
  | 56 => ⟨S32x16x512, .f32⟩
  | 57 => ⟨S32x16x512, .f32⟩
  | 58 => ⟨S32x16x512, .f32⟩
  | 59 => ⟨S32x16x512, .f32⟩
  | 60 => ⟨S32x16x512, .f32⟩
  | 61 => ⟨S32x16x512, .f32⟩
  | 62 => ⟨S512x512, .f32⟩
  | 63 => ⟨S32x16x512, .f32⟩
  | 64 => ⟨S32x16x512, .f32⟩
  | 65 => ⟨S32x16x512, .f32⟩
  | 66 => ⟨S32x16x512, .f32⟩
  | 67 => ⟨S32x16x512, .f32⟩
  | 68 => ⟨S32x16x512, .f32⟩
  | 69 => ⟨S32x16x512, .f32⟩
  | 70 => ⟨S512x512, .f32⟩
  | 71 => ⟨S4, .i32⟩
  | 72 => ⟨S512, .i32⟩
  | 73 => ⟨S4x1, .i32⟩
  | 74 => ⟨S1x512, .i32⟩
  | 75 => ⟨S4x512, .i32⟩
  | 76 => ⟨S4x512, .i32⟩
  | 77 => ⟨S4x512, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S4x512, .i32⟩
  | 85 => ⟨S4x512, .i32⟩
  | 86 => ⟨S_, .i32⟩
  | 87 => ⟨S4x512, .i32⟩
  | 88 => ⟨S4x512, .i1⟩
  | 89 => ⟨S_, .i32⟩
  | 90 => ⟨S4x512, .i32⟩
  | 91 => ⟨S4x512, .i1⟩
  | 92 => ⟨S_, .i32⟩
  | 93 => ⟨S_, .i1⟩
  | 94 => ⟨S4x512, .i1⟩
  | 95 => ⟨S4x512, .i1⟩
  | 96 => ⟨S4x512, .i1⟩
  | 97 => ⟨S4x512, .i32⟩
  | 98 => ⟨S4x512, .i32⟩
  | 99 => ⟨S4x512, .i32⟩
  | 100 => ⟨S4x512, .f32⟩
  | 101 => ⟨S_, .f32⟩
  | 102 => ⟨S4x512, .f32⟩
  | 103 => ⟨S4x512, .f32⟩
  | 104 => ⟨S4x512, .f32⟩
  | 105 => ⟨S4x512, .f32⟩
  | 106 => ⟨S4x1x512, .f32⟩
  | 107 => ⟨S4x1x512, .f32⟩
  | 108 => ⟨S1x512x512, .f32⟩
  | 109 => ⟨S4x512x512, .f32⟩
  | 110 => ⟨S4x512x512, .f32⟩
  | 111 => ⟨S4x512x512, .f32⟩
  | 112 => ⟨S1x512x512, .f32⟩
  | 113 => ⟨S4x512x512, .f32⟩
  | 114 => ⟨S4x512x512, .f32⟩
  | 115 => ⟨S4x512x512, .f32⟩
  | 116 => ⟨S4x512x512, .f32⟩
  | 117 => ⟨S1x512x512, .f32⟩
  | 118 => ⟨S4x512x512, .f32⟩
  | 119 => ⟨S4x512x512, .f32⟩
  | 120 => ⟨S4x512x512, .f32⟩
  | 121 => ⟨S1x512x512, .f32⟩
  | 122 => ⟨S4x512x512, .f32⟩
  | 123 => ⟨S4x512x512, .f32⟩
  | 124 => ⟨S4x512x512, .f32⟩
  | 125 => ⟨S4x512x512, .f32⟩
  | 126 => ⟨S4x512x512, .f32⟩
  | 127 => ⟨S4x512x1024, .f32⟩
  | _ => ⟨S8192x2048, .f32⟩

abbrev hbmTy0_2 (i : Nat) : BufTy := match i % 128 with
  | 0 => ⟨S4x512x1024, .bf16⟩
  | 1 => ⟨S256x512, .f32⟩
  | 2 => ⟨S256x512, .bf16⟩
  | 3 => ⟨S4x2048x2048, .f32⟩
  | 4 => ⟨S4x2048x128, .f32⟩
  | 5 => ⟨S1x2048, .f32⟩
  | 6 => ⟨S2048, .f32⟩
  | 7 => ⟨S1x2048, .f32⟩
  | 8 => ⟨S4x2048x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | .local _ .vmem, ⟨0, _⟩ => ⟨S4x512x1024, .bf16⟩
  | .local _ .vmem, ⟨1, _⟩ => ⟨S256x512, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x128, .f32⟩
  | .local _ .vmem, ⟨5, _⟩ => ⟨S1x2048x128, .f32⟩
  | .local _ .vmem, ⟨6, _⟩ => ⟨S1x1024, .f32⟩
  | .local _ .vmem, ⟨7, _⟩ => ⟨S1x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S4x512x1024, .bf16⟩
  | .local _ .vmem, ⟨11, _⟩ => ⟨S4x1024x1024, .bf16⟩
  | .local _ .vmem, ⟨12, _⟩ => ⟨S4x512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v21 : Ref sig .tc := ⟨.hbm, 68, rfl⟩
abbrev main_v22 : Ref sig .tc := ⟨.hbm, 69, rfl⟩
abbrev main_cst_2 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_3 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_4 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_c_5 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_6 : Ref sig .tc := ⟨.hbm, 111, rfl⟩
abbrev main_call2_v0 : Ref sig .tc := ⟨.hbm, 112, rfl⟩
abbrev main_call2_c : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_c_1 : Ref sig .tc := ⟨.hbm, 119, rfl⟩
abbrev main_call2_v5 : Ref sig .tc := ⟨.hbm, 120, rfl⟩
abbrev main_call2_v6 : Ref sig .tc := ⟨.hbm, 121, rfl⟩
abbrev main_call2_c_2 : Ref sig .tc := ⟨.hbm, 122, rfl⟩
abbrev main_call2_v7 : Ref sig .tc := ⟨.hbm, 123, rfl⟩
abbrev main_call2_v8 : Ref sig .tc := ⟨.hbm, 124, rfl⟩
abbrev main_call2_c_3 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_v60 : Ref sig .tc := ⟨.hbm, 132, rfl⟩
abbrev main_v61 : Ref sig .tc := ⟨.hbm, 133, rfl⟩
abbrev main_cst_7 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_c_8 : Ref sig .tc := ⟨.hbm, 145, rfl⟩
abbrev main_call3_v0 : Ref sig .tc := ⟨.hbm, 146, rfl⟩
abbrev main_call3_c : Ref sig .tc := ⟨.hbm, 147, rfl⟩
abbrev main_call3_v1 : Ref sig .tc := ⟨.hbm, 148, rfl⟩
abbrev main_call3_c_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_c_1 : Ref sig .tc := ⟨.hbm, 153, rfl⟩
abbrev main_call3_v5 : Ref sig .tc := ⟨.hbm, 154, rfl⟩
abbrev main_call3_v6 : Ref sig .tc := ⟨.hbm, 155, rfl⟩
abbrev main_call3_c_2 : Ref sig .tc := ⟨.hbm, 156, rfl⟩
abbrev main_call3_v7 : Ref sig .tc := ⟨.hbm, 157, rfl⟩
abbrev main_call3_v8 : Ref sig .tc := ⟨.hbm, 158, rfl⟩
abbrev main_call3_c_3 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_v12 : Ref sig .tc := ⟨.hbm, 163, rfl⟩
abbrev main_call3_v13 : Ref sig .tc := ⟨.hbm, 164, rfl⟩
abbrev main_call3_v14 : Ref sig .tc := ⟨.hbm, 165, rfl⟩
abbrev main_v72 : Ref sig .tc := ⟨.hbm, 166, rfl⟩
abbrev main_v73 : Ref sig .tc := ⟨.hbm, 167, rfl⟩
abbrev main_cst_9 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_cst_10 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_cst_11 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_c_12 : Ref sig .tc := ⟨.hbm, 206, rfl⟩
abbrev main_call4_v0 : Ref sig .tc := ⟨.hbm, 207, rfl⟩
abbrev main_call4_c : Ref sig .tc := ⟨.hbm, 208, rfl⟩
abbrev main_call4_v1 : Ref sig .tc := ⟨.hbm, 209, rfl⟩
abbrev main_call4_c_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_c_1 : Ref sig .tc := ⟨.hbm, 214, rfl⟩
abbrev main_call4_v5 : Ref sig .tc := ⟨.hbm, 215, rfl⟩
abbrev main_call4_v6 : Ref sig .tc := ⟨.hbm, 216, rfl⟩
abbrev main_call4_c_2 : Ref sig .tc := ⟨.hbm, 217, rfl⟩
abbrev main_call4_v7 : Ref sig .tc := ⟨.hbm, 218, rfl⟩
abbrev main_call4_v8 : Ref sig .tc := ⟨.hbm, 219, rfl⟩
abbrev main_call4_c_3 : Ref sig .tc := ⟨.hbm, 220, rfl⟩
abbrev main_call4_v9 : Ref sig .tc := ⟨.hbm, 221, rfl⟩
abbrev main_call4_v10 : Ref sig .tc := ⟨.hbm, 222, rfl⟩
abbrev main_call4_v11 : Ref sig .tc := ⟨.hbm, 223, rfl⟩
abbrev main_call4_v12 : Ref sig .tc := ⟨.hbm, 224, rfl⟩
abbrev main_call4_v13 : Ref sig .tc := ⟨.hbm, 225, rfl⟩
abbrev main_call4_v14 : Ref sig .tc := ⟨.hbm, 226, rfl⟩
abbrev main_v109 : Ref sig .tc := ⟨.hbm, 227, rfl⟩
abbrev main_v110 : Ref sig .tc := ⟨.hbm, 228, rfl⟩
abbrev main_cst_13 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  v317
def k0_off1 (k0_t1 : Fin k0_t1_loop.trips) (c0_i32_245 : BitVec 32) : Fin 3 → Nat :=
  let c0_246 : Index := 0#32
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  let v318 : BitVec 32 := v317
  let v319 : BitVec 32 := Scalar.addi c0_i32_245 v318
  let v320 : Index := Scalar.indexCast v319
  let c0_247 : Index := 0#32
  ![0, v320.toNat, 0]
def k0_off2 (k0_t1 : Fin k0_t1_loop.trips) (c0_i32_245 : BitVec 32) : Fin 3 → Nat :=
  let c0_248 : Index := 0#32
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  let v318 : BitVec 32 := v317
  let v319 : BitVec 32 := Scalar.addi c0_i32_245 v318
  let v324 : Index := Scalar.indexCast v319
  let c0_249 : Index := 0#32
  ![0, v324.toNat, 0]
def k0_off3 (k0_t1 : Fin k0_t1_loop.trips) : Fin 3 → Nat :=
  let c0_270 : Index := 0#32
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  let v318 : BitVec 32 := v317
  let v378 : Index := Scalar.indexCast v318
  let c0_271 : Index := 0#32
  ![0, v378.toNat, 0]
def k0_off4 (k0_t1 : Fin k0_t1_loop.trips) : Fin 3 → Nat :=
  let c1_272 : Index := 1#32
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  let v318 : BitVec 32 := v317
  let v383 : Index := Scalar.indexCast v318
  let c0_273 : Index := 0#32
  ![1, v383.toNat, 0]
def k0_off5 (k0_t1 : Fin k0_t1_loop.trips) : Fin 3 → Nat :=
  let c2_274 : Index := 2#32
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  let v318 : BitVec 32 := v317
  let v388 : Index := Scalar.indexCast v318
  let c0_275 : Index := 0#32
  ![2, v388.toNat, 0]
def k0_off6 (k0_t1 : Fin k0_t1_loop.trips) : Fin 3 → Nat :=
  let c3_276 : Index := 3#32
  let c0_i32 : BitVec 32 := 0#32
  let c1_i32 : BitVec 32 := 1#32
  let arg11 : BitVec 32 := Scf.iv c0_i32 c1_i32 k0_t1
  let c256_i32 : BitVec 32 := 256#32
  let v317 : BitVec 32 := Scalar.muli arg11 c256_i32
  let v318 : BitVec 32 := v317
  let v393 : Index := Scalar.indexCast v318
  let c0_277 : Index := 0#32
  ![3, v393.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Sgu.Block.lean ====
/- What the gating kernel computes from one tile, block by block: the cast weight, the normalised rows, their projection, and
   the spatial gate applied to a projected tile. The formulas hold over any float interpretation. -/
module

public import proofs.«01_k».proof.Proof.Gen.SguIdeal.Frame
public import proofs.«01_k».proof.Proof.Gen.SguIdeal.Loops
public import Idealize.ShloMosaic.Lib.VecWindow

@[expose] public section

set_option maxRecDepth 16384

noncomputable section

namespace Cert.SguIdeal.Value

open Idealize.ShloMosaic Idealize.ShloMosaic.TcCoe Idealize.ShloMosaic.Tactic
open Cert.SguIdeal.Gen

variable {F : FTy → Type} [FloatOps F]

/-! ## A tile's normalised rows and their projection -/

/-- Half a tile (256 rows from row `256·r`). -/
def halfRows (x : Vec F S512x2048 .f32) (r : Fin 2) : Vec F S256x2048 .f32 :=
  VecWindow.window (s := S512x2048) x ![256 * r.val, 0] S256x2048.size (fun a => by fin_cases a <;> fin_cases r <;> decide)

/-- The whole of `x`, as a load from the origin reads it. -/
def whole {s : Shape} {α : Type} (x : s.Idx → α) (off : Fin s.rank → ℕ) (inb : ∀ a, off a + s.size a ≤ s.size a) : s.Idx → α :=
  VecWindow.window x off s.size inb

theorem whole_eq {s : Shape} {α : Type} (x : s.Idx → α) (off : Fin s.rank → ℕ) (inb : ∀ a, off a + s.size a ≤ s.size a) :
    whole x off inb = x := funext fun y => congrArg x (funext fun a => Fin.ext (by
  have h := inb a
  show off a + 1 * (y a).val = (y a).val
  omega))

/-- The normalised rows of half a tile, rounded to bf16. -/
def normHalf (x : Vec F S256x2048 .f32) (g : Vec F S1x2048 .f32) : FVec F S256x2048 .bf16 :=
  k0_pay86 x (whole (s := S1x2048) g ![0, 0] inb_S1x2048_S1x2048_0_0)

/-- The projection of half a tile's normalised rows by the cast weight. -/
def projHalf (x : Vec F S256x2048 .f32) (g : Vec F S1x2048 .f32) (wb : Vec F S2048x2048 .bf16) : FVec F S256x2048 .f32 :=
  k0_pay87 x (whole (s := S1x2048) g ![0, 0] inb_S1x2048_S1x2048_0_0) (whole (s := S2048x2048) wb ![0, 0] inb_S2048x2048_S2048x2048_0_0)

/-- The row's place in its half. -/
def inHalf (y : S512x2048.Idx) : S256x2048.Idx := fun a => match a with
  | ⟨0, _⟩ => ⟨(y 0).val % 256, Nat.mod_lt _ (by decide)⟩
  | ⟨1, _⟩ => ⟨(y 1).val, (y 1).isLt⟩

/-- Which half of the tile the row is in. -/
def half (y : S512x2048.Idx) : Fin 2 := ⟨(y 0).val / 256, by have h : (y 0).val < 512 := (y 0).isLt; omega⟩

/-- The tile's normalised rows. -/
def normTile (x : Vec F S512x2048 .f32) (g : Vec F S1x2048 .f32) : Vec F S512x2048 .bf16 :=
  fun y => normHalf (halfRows x (half y)) g (inHalf y)

/-- The tile's projection. -/
def projTile (x : Vec F S512x2048 .f32) (g : Vec F S1x2048 .f32) (wb : Vec F S2048x2048 .bf16) : Vec F S512x2048 .f32 :=
  fun y => projHalf (halfRows x (half y)) g wb (inHalf y)

/-! ## The gate of a projected tile -/

/-- The value half of 128 rows of a projected tile (columns from 1024). -/
def valueRows (z : Vec F S512x2048 .f32) (c : Fin 4) : Vec F S128x1024 .f32 :=
  VecWindow.window (s := S512x2048) z ![128 * c.val, 1024] S128x1024.size (fun a => by fin_cases a <;> fin_cases c <;> decide)

/-- Head `hh`'s columns of the gated half of 128 rows of a projected tile. -/
def gatedRows (z : Vec F S512x2048 .f32) (c : Fin 4) (hh : Fin 8) : Vec F S128x128 .f32 :=
  VecWindow.window (s := S512x2048) z ![128 * c.val, 128 * hh.val] S128x128.size
    (fun a => by fin_cases a <;> fin_cases c <;> fin_cases hh <;> decide)

/-- Head `hh`'s spatial weight. -/
def headWeight (ws : Vec F S8x128x128 .f32) (hh : Fin 8) : Vec F S1x128x128 .f32 :=
  VecWindow.window (s := S8x128x128) ws ![hh.val, 0, 0] S1x128x128.size (fun a => by fin_cases a <;> fin_cases hh <;> decide)

/-- Head `hh`'s spatial bias. -/
def headBias (bs : Vec F S128x8 .f32) (hh : Fin 8) : Vec F S128x1 .f32 :=
  VecWindow.window (s := S128x8) bs ![0, hh.val] S128x1.size (fun a => by fin_cases a <;> fin_cases hh <;> decide)

/-- The value half after gelu and layer norm, rounded to bf16. -/
def valueNorm (v : Vec F S128x1024 .f32) (lg : Vec F S1x1024 .f32) (lb : Vec F S1x1024 .f32) : FVec F S128x1024 .bf16 :=
  k0_pay96 (k0_pay92 (whole (s := S1x1024) lg ![0, 0] inb_S1x1024_S1x1024_0_0)) (k0_pay93 (whole (s := S1x1024) lb ![0, 0] inb_S1x1024_S1x1024_0_0)) (k0_pay94 v) (k0_pay95 v)

/-- Head `hh`'s columns lie in the value half. -/
theorem headSlices (hh : Fin 8) : S128x1024.Slices ![0, 128 * hh.val] S128x128 := by fin_cases hh <;> decide

/-- `0.5·u·(1 + erf(u·c))`. -/
def geluBlock (u : FVec F S128x128 .f32) : FVec F S128x128 .f32 :=
  mulf (mulf (broadcast S128x128 (Scalar.ofBits .f32 0x3F000000#32)) u)
    (addf (broadcast S128x128 (Scalar.ofBits .f32 0x3F800000#32))
      (erf (mulf u (broadcast S128x128 (Scalar.ofBits .f32 0x3F3504F3#32)))))

/-- One head of 128 rows: the gated half's gelu times the spatially mixed value half. -/
def gateHead (v : FVec F S128x1024 .bf16) (w : Vec F S1x128x128 .f32) (b : Vec F S128x1 .f32) (u : Vec F S128x128 .f32)
    (hh : Fin 8) : FVec F S128x128 .bf16 :=
  truncf .bf16 (mulf (geluBlock u)
    (addf (matmul dot_S128x128_S128x128_S128x128_1_0_0_1_n_n none
        (truncf .bf16 (shapeCast S128x128 w shapeCasts_S1x128x128_S128x128) bitsLt_bf16_f32)
        (extractStridedSlice S128x128 ![0, 128 * hh.val] v (headSlices hh))
        (constant S128x128 .f32 0x00000000#32))
      (broadcastTo S128x128 (shapeCast S128x1 b shapeCasts_S128x1_S128x1) broadcasts_S128x1_S128x128))) bitsLt_bf16_f32

/-- Which 128 rows, which head, and the place there, of an element of a gated tile. -/
def rowsOf (y : S512x1024.Idx) : Fin 4 := ⟨(y 0).val / 128, by have h : (y 0).val < 512 := (y 0).isLt; omega⟩
def headOf (y : S512x1024.Idx) : Fin 8 := ⟨(y 1).val / 128, by have h : (y 1).val < 1024 := (y 1).isLt; omega⟩
def inHead (y : S512x1024.Idx) : S128x128.Idx := fun a => match a with
  | ⟨0, _⟩ => ⟨(y 0).val % 128, Nat.mod_lt _ (by decide)⟩
  | ⟨1, _⟩ => ⟨(y 1).val % 128, Nat.mod_lt _ (by decide)⟩

/-- The block of 128 rows and one head of a projected tile's gate. -/
def gateBlock (z : Vec F S512x2048 .f32) (lg lb : Vec F S1x1024 .f32) (ws : Vec F S8x128x128 .f32) (bs : Vec F S128x8 .f32)
    (c : Fin 4) (hh : Fin 8) : FVec F S128x128 .bf16 :=
  gateHead (valueNorm (valueRows z c) lg lb) (headWeight ws hh) (headBias bs hh) (gatedRows z c hh) hh

/-- A projected tile's gate. -/
def gateTile (z : Vec F S512x2048 .f32) (lg lb : Vec F S1x1024 .f32) (ws : Vec F S8x128x128 .f32) (bs : Vec F S128x8 .f32) :
    Vec F S512x1024 .bf16 :=
  fun y => gateBlock z lg lb ws bs (rowsOf y) (headOf y) (inHead y)

/-- The gate at an element placed in its block. -/
theorem gateTile_emb (z : Vec F S512x2048 .f32) (lg lb : Vec F S1x1024 .f32) (ws : Vec F S8x128x128 .f32) (bs : Vec F S128x8 .f32)
    (c : Fin 4) (hh : Fin 8) (y : S512x1024.Idx) (x : S128x128.Idx) (h0 : (y 0).val = 128 * c.val + 1 * (x 0).val)
    (h1 : (y 1).val = 128 * hh.val + 1 * (x 1).val) : gateBlock z lg lb ws bs c hh x = gateTile z lg lb ws bs y := by
  have x0 : (x 0).val < 128 := (x 0).isLt
  have x1 : (x 1).val < 128 := (x 1).isLt
  have ec : rowsOf y = c := Fin.ext (by show (y 0).val / 128 = c.val; omega)
  have eh : headOf y = hh := Fin.ext (by show (y 1).val / 128 = hh.val; omega)
  have ei : inHead y = x := funext fun a => by
    fin_cases a
    · exact Fin.ext (by show (y 0).val % 128 = (x 0).val; omega)
    · exact Fin.ext (by show (y 1).val % 128 = (x 1).val; omega)
  unfold gateTile
  rw [ec, eh, ei]

/-- A piece written into the gated tile is the gate's at its places. -/
def IsGate (z : Vec F S512x2048 .f32) (lg lb : Vec F S1x1024 .f32) (ws : Vec F S8x128x128 .f32) (bs : Vec F S128x8 .f32)
    (p : View.Piece (Elt F) S512x1024 .bf16) : Prop := ∀ x : p.1.shape.Idx, p.2 x = gateTile z lg lb ws bs (p.1.emb x)

/-- A block of 128 rows and one head is the gate's. -/
theorem isGate_block {z : Vec F S512x2048 .f32} {lg lb : Vec F S1x1024 .f32} {ws : Vec F S8x128x128 .f32} {bs : Vec F S128x8 .f32}
    (c : Fin 4) (hh : Fin 8) {off : Fin 2 → ℕ} {inb} {w : Vec F S128x128 .bf16} (h0 : off 0 = 128 * c.val) (h1 : off 1 = 128 * hh.val)
    (hw : w = gateBlock z lg lb ws bs c hh) :
    IsGate z lg lb ws bs (⟨Rect.unit (s := S512x1024) off S128x128.size inb, w⟩ : View.Piece (Elt F) S512x1024 .bf16) := fun x => by
  subst hw
  refine gateTile_emb z lg lb ws bs c hh _ x ?_ ?_
  · show off 0 + 1 * (x 0).val = _; rw [h0]
  · show off 1 + 1 * (x 1).val = _; rw [h1]

/-- A tile written in the gate's pieces, which cover it, reads the gate. -/
theorem read_gate {κ : Kind} {sp : Space} (v : View sig κ sp S512x1024 .bf16) (f : v.ty.Contents (Elt F))
    {z : Vec F S512x2048 .f32} {lg lb : Vec F S1x1024 .f32} {ws : Vec F S8x128x128 .f32} {bs : Vec F S128x8 .f32}
    {L : List (View.Piece (Elt F) S512x1024 .bf16)} (hL : ∀ p ∈ L, IsGate z lg lb ws bs p)
    (hc : View.Piece.tiledL L S128x128.size = true) : v.read (Elt F) (v.writes (Elt F) f L) = gateTile z lg lb ws bs :=
  funext fun y => View.read_writes_apply_of_pieces v f (gateTile z lg lb ws bs) L hL y (View.cover_of_tiledL L S128x128.size hc y)

/-- The normalised rows at an element placed in its half. -/
theorem normTile_emb (x : Vec F S512x2048 .f32) (g : Vec F S1x2048 .f32) (r : Fin 2) (y : S512x2048.Idx) (j : S256x2048.Idx)
    (h0 : (y 0).val = 256 * r.val + 1 * (j 0).val) (h1 : (y 1).val = 0 + 1 * (j 1).val) :
    normHalf (halfRows x r) g j = normTile x g y := by
  have j0 : (j 0).val < 256 := (j 0).isLt
  have ec : half y = r := Fin.ext (by show (y 0).val / 256 = r.val; omega)
  have ei : inHalf y = j := funext fun a => by
    fin_cases a
    · exact Fin.ext (by show (y 0).val % 256 = (j 0).val; omega)
    · exact Fin.ext (by show (y 1).val = (j 1).val; omega)
  unfold normTile
  rw [ec, ei]

/-- The projection at an element placed in its half. -/
theorem projTile_emb (x : Vec F S512x2048 .f32) (g : Vec F S1x2048 .f32) (wb : Vec F S2048x2048 .bf16) (r : Fin 2) (y : S512x2048.Idx)
    (j : S256x2048.Idx) (h0 : (y 0).val = 256 * r.val + 1 * (j 0).val) (h1 : (y 1).val = 0 + 1 * (j 1).val) :
    projHalf (halfRows x r) g wb j = projTile x g wb y := by
  have j0 : (j 0).val < 256 := (j 0).isLt
  have ec : half y = r := Fin.ext (by show (y 0).val / 256 = r.val; omega)
  have ei : inHalf y = j := funext fun a => by
    fin_cases a
    · exact Fin.ext (by show (y 0).val % 256 = (j 0).val; omega)
    · exact Fin.ext (by show (y 1).val = (j 1).val; omega)
  unfold projTile
  rw [ec, ei]

/-- A tile written in two halves, each its part of `G`, reads `G`. -/
theorem read_halves {κ : Kind} {sp : Space} {e : EltTy} (v : View sig κ sp S512x2048 e) (f : v.ty.Contents (Elt F)) (G : Vec F S512x2048 e)
    {inb0 inb1} {w0 w1 : Vec F S256x2048 e}
    (h0 : ∀ (y : S512x2048.Idx) (j : S256x2048.Idx), (y 0).val = 256 * (0 : Fin 2).val + 1 * (j 0).val →
      (y 1).val = 0 + 1 * (j 1).val → w0 j = G y)
    (h1 : ∀ (y : S512x2048.Idx) (j : S256x2048.Idx), (y 0).val = 256 * (1 : Fin 2).val + 1 * (j 0).val →
      (y 1).val = 0 + 1 * (j 1).val → w1 j = G y) :
    v.read (Elt F) (v.writes (Elt F) f [⟨Rect.unit (s := S512x2048) ![256, 0] S256x2048.size inb1, w1⟩,
      ⟨Rect.unit (s := S512x2048) ![0, 0] S256x2048.size inb0, w0⟩]) = G :=
  funext fun y => View.read_writes_apply_of_pieces v f G _
    (List.forall_mem_cons.2 ⟨fun j => h1 _ j rfl rfl, List.forall_mem_cons.2 ⟨fun j => h0 _ j rfl rfl, fun _ h => absurd h List.not_mem_nil⟩⟩)
    y (View.cover_of_tiledL (s := S512x2048) _ S256x2048.size (by sl_kernel_rfl) y)

/-- A tile written in the two halves of its normalised rows reads the normalised tile. -/
theorem read_norm {κ : Kind} {sp : Space} (v : View sig κ sp S512x2048 .bf16) (f : v.ty.Contents (Elt F)) {x : Vec F S512x2048 .f32}
    {g : Vec F S1x2048 .f32} {inb0 inb1} {w0 w1 : Vec F S256x2048 .bf16} (h0 : w0 = normHalf (halfRows x 0) g) (h1 : w1 = normHalf (halfRows x 1) g) :
    v.read (Elt F) (v.writes (Elt F) f [⟨Rect.unit (s := S512x2048) ![256, 0] S256x2048.size inb1, w1⟩,
      ⟨Rect.unit (s := S512x2048) ![0, 0] S256x2048.size inb0, w0⟩]) = normTile x g := by
  subst h0 h1
  exact read_halves v f _ (normTile_emb x g 0) (normTile_emb x g 1)

/-- A tile written in the two halves of its projection reads the projected tile. -/
theorem read_proj {κ : Kind} {sp : Space} (v : View sig κ sp S512x2048 .f32) (f : v.ty.Contents (Elt F)) {x : Vec F S512x2048 .f32}
    {g : Vec F S1x2048 .f32} {wb : Vec F S2048x2048 .bf16} {inb0 inb1} {w0 w1 : Vec F S256x2048 .f32}
    (h0 : w0 = projHalf (halfRows x 0) g wb) (h1 : w1 = projHalf (halfRows x 1) g wb) :
    v.read (Elt F) (v.writes (Elt F) f [⟨Rect.unit (s := S512x2048) ![256, 0] S256x2048.size inb1, w1⟩,
      ⟨Rect.unit (s := S512x2048) ![0, 0] S256x2048.size inb0, w0⟩]) = projTile x g wb := by
  subst h0 h1
  exact read_halves v f _ (projTile_emb x g wb 0) (projTile_emb x g wb 1)

/-! ## The cast weight -/

/-- 256 rows of the weight block (from row `256·k`). -/
def weightRows (w : Vec F S1x2048x2048 .f32) (k : Fin 8) : Vec F S1x256x2048 .f32 :=
  VecWindow.window (s := S1x2048x2048) w ![0, 256 * k.val, 0] S1x256x2048.size (fun a => by fin_cases a <;> fin_cases k <;> decide)

/-- The weight block, rounded to bf16, 256 rows at a time. -/
def castWeight (w : Vec F S1x2048x2048 .f32) : Vec F S2048x2048 .bf16 :=
  fun y => k0_pay3 (weightRows w ⟨(y 0).val / 256, by have h : (y 0).val < 2048 := (y 0).isLt; omega⟩) (fun a => match a with
    | ⟨0, _⟩ => ⟨(y 0).val % 256, Nat.mod_lt _ (by decide)⟩
    | ⟨1, _⟩ => ⟨(y 1).val, (y 1).isLt⟩)

/-- The cast weight at an element placed in its 256 rows. -/
theorem castWeight_emb (w : Vec F S1x2048x2048 .f32) (k : Fin 8) (y : S2048x2048.Idx) (j : S256x2048.Idx)
    (h0 : (y 0).val = 256 * k.val + 1 * (j 0).val) (h1 : (y 1).val = 0 + 1 * (j 1).val) :
    k0_pay3 (weightRows w k) j = castWeight w y := by
  have j0 : (j 0).val < 256 := (j 0).isLt
  have ec : (⟨(y 0).val / 256, by have h : (y 0).val < 2048 := (y 0).isLt; omega⟩ : Fin 8) = k :=
    Fin.ext (by show (y 0).val / 256 = k.val; omega)
  unfold castWeight
  rw [ec]
  refine congrArg (k0_pay3 (weightRows w k)) (funext fun a => ?_)
  fin_cases a
  · exact Fin.ext (by show (j 0).val = (y 0).val % 256; omega)
  · exact Fin.ext (by show (j 1).val = (y 1).val; omega)

/-! ## The body's branch conditions -/

abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1

end Cert.SguIdeal.Value

end
-- ==== Proof.Sgu.First.lean ====
/- The body at the first point: the weight is cast, and the first tile is projected into the first buffer. -/
module

public import proofs.«01_k».proof.Proof.Sgu.Block

@[expose] public section

set_option maxRecDepth 16384

noncomputable section

namespace Cert.SguIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SguIdeal.Gen

variable {F : FTy → Type} [FloatOps F]

local notation "𝕄" => MT nD τ sig Unit (Elt F) ℕ (UR sig nD τ) ℕ

section Loop

variable (c : Dev nD) (i : grid0.Coords)
    (arg1 : Memref sig .tc .vmem S512x2048 .f32) (harg1 : arg1.IsWhole)
    (arg2 : Memref sig .tc .vmem S1x2048 .f32) (harg2 : arg2.IsWhole)
    (arg3 : Memref sig .tc .vmem S1x2048x2048 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S8x128x128 .f32) (harg6 : arg6.IsWhole)
    (arg7 : Memref sig .tc .vmem S128x8 .f32) (harg7 : arg7.IsWhole)
    (arg8 : Memref sig .tc .vmem S512x1024 .bf16) (harg8 : arg8.IsWhole)
    (arg9 : Memref sig .tc .vmem S512x2048 .bf16) (harg9 : arg9.IsWhole)
    (arg10 : Memref sig .tc .vmem S2048x2048 .bf16) (harg10 : arg10.IsWhole)
    (arg11 : Memref sig .tc .vmem S512x2048 .f32) (harg11 : arg11.IsWhole)
    (arg12 : Memref sig .tc .vmem S512x2048 .f32) (harg12 : arg12.IsWhole)
    (hc0 : cond0_0 i) (X : BufTy.Contents (Elt F) arg3.view.ty)

/-- One trip of the loop writes one piece: its 256 rows of the weight, rounded. -/
theorem trip_piece (k : Fin k0_t1_loop.trips) :
    tripL_k0_t1 (F := F) Variants.none c none i
      arg1 harg1 arg2 harg2 arg3 harg3 arg4 harg4 arg5 harg5 arg6 harg6 arg7 harg7 arg8 harg8 arg9 harg9 arg10 harg10 arg11 harg11 arg12 harg12 hc0 X k
      = [⟨Rect.unit (s := S2048x2048) (k0_off2 k) S256x2048.size (k0_off2_inb i k hc0),
          k0_pay3 (arg3.view.readAt (Elt F) (Rect.unit (s := S1x2048x2048) (k0_off1 k) S1x256x2048.size (k0_off1_inb i k hc0)).toLoadRect X)⟩] := by
  unfold tripL_k0_t1 trip_k0_t1
  rfl

theorem trips_eq : k0_t1_loop.trips = 8 := by decide

/-- The pieces of the first `n` trips are the cast weight's, and they cover the first `256·n` rows. -/
theorem trips_pieces : ∀ n : ℕ, n ≤ 8 →
    (∀ p ∈ pb_k0_t1 (F := F) Variants.none c none i
      arg1 harg1 arg2 harg2 arg3 harg3 arg4 harg4 arg5 harg5 arg6 harg6 arg7 harg7 arg8 harg8 arg9 harg9 arg10 harg10 arg11 harg11 arg12 harg12 hc0 X n,
      ∀ x : p.1.shape.Idx, p.2 x = castWeight (arg3.view.read (Elt F) X) (p.1.emb x))
    ∧ (∀ y : S2048x2048.Idx, (y 0).val < 256 * n →
      ∃ p ∈ pb_k0_t1 (F := F) Variants.none c none i
      arg1 harg1 arg2 harg2 arg3 harg3 arg4 harg4 arg5 harg5 arg6 harg6 arg7 harg7 arg8 harg8 arg9 harg9 arg10 harg10 arg11 harg11 arg12 harg12 hc0 X n, y ∈ p.1.set)
  | 0, _ => ⟨fun p hp => absurd hp List.not_mem_nil, fun y hy => absurd hy (by omega)⟩
  | n + 1, hn => by
    have ih := trips_pieces n (by omega)
    have hk : n < k0_t1_loop.trips := by rw [trips_eq]; omega
    have e := pb_k0_t1_succ (F := F) Variants.none c none i
      arg1 harg1 arg2 harg2 arg3 harg3 arg4 harg4 arg5 harg5 arg6 harg6 arg7 harg7 arg8 harg8 arg9 harg9 arg10 harg10 arg11 harg11 arg12 harg12 hc0 X ⟨n, hk⟩
    rw [trip_piece] at e
    have e2 := k0_off2_eq ⟨n, hk⟩
    have e1 := k0_off1_eq ⟨n, hk⟩
    rw [show (n + 1) = (⟨n, hk⟩ : Fin k0_t1_loop.trips).val + 1 from rfl, e]
    refine ⟨fun p hp => ?_, fun y hy => ?_⟩
    · rcases List.mem_append.mp hp with hp | hp
      · obtain rfl := List.mem_singleton.mp hp
        intro x
        have hw : (arg3.view.readAt (Elt F) (Rect.unit (s := S1x2048x2048) (k0_off1 ⟨n, hk⟩) S1x256x2048.size (k0_off1_inb i ⟨n, hk⟩ hc0)).toLoadRect X)
            = weightRows (arg3.view.read (Elt F) X) ⟨n, by omega⟩ := View.readAt_unit _ _ _ e1 _
        refine (congrFun (congrArg k0_pay3 hw) x).trans (castWeight_emb _ ⟨n, by omega⟩ _ x ?_ ?_)
        · exact congrArg (· + 1 * (x 0).val) (congrFun e2 0)
        · exact congrArg (· + 1 * (x 1).val) (congrFun e2 1)
      · exact ih.1 p hp
    · by_cases h : (y 0).val < 256 * n
      · obtain ⟨p, hp, hy'⟩ := ih.2 y h
        exact ⟨p, List.mem_append.mpr (.inr hp), hy'⟩
      · refine ⟨_, List.mem_append.mpr (.inl (List.mem_singleton.mpr rfl)), ?_⟩
        refine (Rect.mem_set_unit (s := S2048x2048) (inb := k0_off2_inb i ⟨n, hk⟩ hc0)).mpr fun a => ?_
        have y1 : (y 1).val < 2048 := (y 1).isLt
        have hy : (y 0).val < 256 * (n + 1) := hy
        rw [e2]
        fin_cases a
        · exact ⟨by show 256 * n ≤ (y 0).val; omega, by show (y 0).val < 256 * n + 256; omega⟩
        · exact ⟨Nat.zero_le _, by show (y 1).val < 0 + 2048; omega⟩

/-- After the loop the buffer holds the cast weight. -/
theorem read_weight (f : BufTy.Contents (Elt F) arg10.view.ty) :
    arg10.view.read (Elt F) (arg10.view.writes (Elt F) f
      (pb_k0_t1 (F := F) Variants.none c none i
      arg1 harg1 arg2 harg2 arg3 harg3 arg4 harg4 arg5 harg5 arg6 harg6 arg7 harg7 arg8 harg8 arg9 harg9 arg10 harg10 arg11 harg11 arg12 harg12 hc0 X (Scf.trips k0_t1_loop.lb k0_t1_loop.ub k0_t1_loop.st)))
      = castWeight (arg3.view.read (Elt F) X) := by
  have ht : Scf.trips k0_t1_loop.lb k0_t1_loop.ub k0_t1_loop.st = 8 := trips_eq
  rw [ht]
  have h := trips_pieces (F := F) c i
      arg1 harg1 arg2 harg2 arg3 harg3 arg4 harg4 arg5 harg5 arg6 harg6 arg7 harg7 arg8 harg8 arg9 harg9 arg10 harg10 arg11 harg11 arg12 harg12 hc0 X 8 (le_refl 8)
  exact funext fun y => View.read_writes_apply_of_pieces _ _ _ _ h.1 y (h.2 y (by have : (y 0).val < 2048 := (y 0).isLt; omega))

end Loop

set_option maxHeartbeats 4000000 in
/-- The body at the first point: the weight is cast, and the first tile is projected into the first buffer. -/
theorem run_first (c : Dev nD) (i : grid0.Coords)
    (arg1 : Memref sig .tc .vmem S512x2048 .f32) (harg1 : arg1.IsWhole)
    (arg2 : Memref sig .tc .vmem S1x2048 .f32) (harg2 : arg2.IsWhole)
    (arg3 : Memref sig .tc .vmem S1x2048x2048 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S8x128x128 .f32) (harg6 : arg6.IsWhole)
    (arg7 : Memref sig .tc .vmem S128x8 .f32) (harg7 : arg7.IsWhole)
    (arg8 : Memref sig .tc .vmem S512x1024 .bf16) (harg8 : arg8.IsWhole)
    (arg9 : Memref sig .tc .vmem S512x2048 .bf16) (harg9 : arg9.IsWhole)
    (arg10 : Memref sig .tc .vmem S2048x2048 .bf16) (harg10 : arg10.IsWhole)
    (arg11 : Memref sig .tc .vmem S512x2048 .f32) (harg11 : arg11.IsWhole)
    (arg12 : Memref sig .tc .vmem S512x2048 .f32) (harg12 : arg12.IsWhole)
    (hc0 : cond0_0 i) (hc1 : ¬cond0_1 i) (hc2 : ¬cond0_2 i) (hc3 : ¬cond0_3 i) (x0 : Vec F S512x2048 .f32) (x1 : Vec F S1x2048 .f32) (x2 : Vec F S1x2048x2048 .f32)
    (x3 x4 : Vec F S1x1024 .f32) (x5 : Vec F S8x128x128 .f32) (x6 : Vec F S128x8 .f32)
    (y7 : Vec F S512x1024 .bf16) (zb : Vec F S512x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare y7 ∗
          (∃ d, owns (c : Thread nD τ) arg9 fullShare d) ∗ (∃ d, owns (c : Thread nD τ) arg10 fullShare d) ∗
          (∃ d, owns (c : Thread nD τ) arg11 fullShare d) ∗ owns (c : Thread nD τ) arg12 fullShare zb
        ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare y7 ∗
          owns (c : Thread nD τ) arg9 fullShare (normTile x0 x1) ∗ owns (c : Thread nD τ) arg10 fullShare (castWeight x2) ∗
          owns (c : Thread nD τ) arg11 fullShare (projTile x0 x1 (castWeight x2)) ∗ owns (c : Thread nD τ) arg12 fullShare zb) -∗ K ⟨⟩))
      ⊢ wp frame (wpE (defs₀ (F := F)) Variants.none c none) E (cc0_sgu_branch i
          arg1 harg1 arg2 harg2 arg3 harg3 arg4 harg4 arg5 harg5 arg6 harg6 arg7 harg7 arg8 harg8 arg9 harg9 arg10 harg10 arg11 harg11 arg12 harg12) K := by
  rw [cc0_sgu_branch_eq_skeleton]; unfold cc0_sgu_branch_skel
  rw [k0_part70_eq_skeleton]; unfold k0_part70_skel
  rw [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
  subst hf0 hf1 hf2 hf3 hf4 hf5 hf6 hf7 hf11
  sl_exec (disch := first | sl_exact hc0 | sl_exact hc1 | sl_exact hc2 | sl_exact hc3)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    exact read_norm _ _ rfl rfl
  isplitl [H9]
  · iexists _; isplitr; swap; · iexact H9
    ipureintro
    exact read_weight c i
      arg1 harg1 arg2 harg2 arg3 harg3 arg4 harg4 arg5 harg5 arg6 harg6 arg7 harg7 arg8 harg8 arg9 harg9 arg10 harg10 arg11 harg11 arg12 harg12 hc0 _ _
  isplitl [H10]
  · iexists _; isplitr; swap; · iexact H10
    ipureintro
    rw [← read_weight c i
      arg1 harg1 arg2 harg2 arg3 harg3 arg4 harg4 arg5 harg5 arg6 harg6 arg7 harg7 arg8 harg8 arg9 harg9 arg10 harg10 arg11 harg11 arg12 harg12 hc0 _ _]
    exact read_proj _ _ rfl rfl
  · iexists _; isplitr; swap; · iexact H11
    ipureintro
    rfl

end Cert.SguIdeal.Value

end
-- ==== Proof.Sgu.Odd.lean ====
/- The body at an odd point: this tile is projected into the second buffer, and the first buffer's tile is gated. -/
module

public import proofs.«01_k».proof.Proof.Sgu.Block

@[expose] public section

set_option maxRecDepth 16384

noncomputable section

namespace Cert.SguIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SguIdeal.Gen

variable {F : FTy → Type} [FloatOps F]

local notation "𝕄" => MT nD τ sig Unit (Elt F) ℕ (UR sig nD τ) ℕ

set_option maxHeartbeats 4000000 in
/-- The body at an odd point: this tile is projected into the second buffer, and the first buffer's tile is gated. -/
theorem run_odd (c : Dev nD) (i : grid0.Coords)
    (arg1 : Memref sig .tc .vmem S512x2048 .f32) (harg1 : arg1.IsWhole)
    (arg2 : Memref sig .tc .vmem S1x2048 .f32) (harg2 : arg2.IsWhole)
    (arg3 : Memref sig .tc .vmem S1x2048x2048 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S8x128x128 .f32) (harg6 : arg6.IsWhole)
    (arg7 : Memref sig .tc .vmem S128x8 .f32) (harg7 : arg7.IsWhole)
    (arg8 : Memref sig .tc .vmem S512x1024 .bf16) (harg8 : arg8.IsWhole)
    (arg9 : Memref sig .tc .vmem S512x2048 .bf16) (harg9 : arg9.IsWhole)
    (arg10 : Memref sig .tc .vmem S2048x2048 .bf16) (harg10 : arg10.IsWhole)
    (arg11 : Memref sig .tc .vmem S512x2048 .f32) (harg11 : arg11.IsWhole)
    (arg12 : Memref sig .tc .vmem S512x2048 .f32) (harg12 : arg12.IsWhole)
    (hc0 : ¬cond0_0 i) (hc1 : ¬cond0_1 i) (hc2 : cond0_2 i) (hc3 : ¬cond0_3 i) (x0 : Vec F S512x2048 .f32) (x1 : Vec F S1x2048 .f32) (x2 : Vec F S1x2048x2048 .f32)
    (x3 x4 : Vec F S1x1024 .f32) (x5 : Vec F S8x128x128 .f32) (x6 : Vec F S128x8 .f32)
    (wb : Vec F S2048x2048 .bf16) (za : Vec F S512x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ (∃ d, owns (c : Thread nD τ) arg8 fullShare d) ∗
          (∃ d, owns (c : Thread nD τ) arg9 fullShare d) ∗ owns (c : Thread nD τ) arg10 fullShare wb ∗
          owns (c : Thread nD τ) arg11 fullShare za ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare (gateTile za x3 x4 x5 x6) ∗
          owns (c : Thread nD τ) arg9 fullShare (normTile x0 x1) ∗ owns (c : Thread nD τ) arg10 fullShare wb ∗
          owns (c : Thread nD τ) arg11 fullShare za ∗ owns (c : Thread nD τ) arg12 fullShare (projTile x0 x1 wb)) -∗ K ⟨⟩))
      ⊢ wp frame (wpE (defs₀ (F := F)) Variants.none c none) E (cc0_sgu_branch i
          arg1 harg1 arg2 harg2 arg3 harg3 arg4 harg4 arg5 harg5 arg6 harg6 arg7 harg7 arg8 harg8 arg9 harg9 arg10 harg10 arg11 harg11 arg12 harg12) K := by
  rw [cc0_sgu_branch_eq_skeleton]; unfold cc0_sgu_branch_skel
  rw [k0_part70_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton,
    k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton,
    k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%d11, %f11, -, H11⟩, Hk⟩
  subst hf0 hf1 hf2 hf3 hf4 hf5 hf6 hf9 hf10
  sl_exec (disch := first | sl_exact hc0 | sl_exact hc1 | sl_exact hc2 | sl_exact hc3)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    exact read_gate _ _ (by
      refine List.forall_mem_cons.2 ⟨isGate_block 3 7 rfl rfl rfl, ?_⟩
      refine List.forall_mem_cons.2 ⟨isGate_block 3 6 rfl rfl rfl, ?_⟩
      refine List.forall_mem_cons.2 ⟨isGate_block 3 5 rfl rfl rfl, ?_⟩
      refine List.forall_mem_cons.2 ⟨isGate_block 3 4 rfl rfl rfl, ?_⟩
      refine List.forall_mem_cons.2 ⟨isGate_block 3 3 rfl rfl rfl, ?_⟩
      refine List.forall_mem_cons.2 ⟨isGate_block 3 2 rfl rfl rfl, ?_⟩
      refine List.forall_mem_cons.2 ⟨isGate_block 3 1 rfl rfl rfl, ?_⟩
      refine List.forall_mem_cons.2 ⟨isGate_block 3 0 rfl rfl rfl, ?_⟩
      refine List.forall_mem_cons.2 ⟨isGate_block 2 7 rfl rfl rfl, ?_⟩
      refine List.forall_mem_cons.2 ⟨isGate_block 2 6 rfl rfl rfl, ?_⟩
      refine List.forall_mem_cons.2 ⟨isGate_block 2 5 rfl rfl rfl, ?_⟩
      refine List.forall_mem_cons.2 ⟨isGate_block 2 4 rfl rfl rfl, ?_⟩
      refine List.forall_mem_cons.2 ⟨isGate_block 2 3 rfl rfl rfl, ?_⟩
      refine List.forall_mem_cons.2 ⟨isGate_block 2 2 rfl rfl rfl, ?_⟩
      refine List.forall_mem_cons.2 ⟨isGate_block 2 1 rfl rfl rfl, ?_⟩
      refine List.forall_mem_cons.2 ⟨isGate_block 2 0 rfl rfl rfl, ?_⟩
      refine List.forall_mem_cons.2 ⟨isGate_block 1 7 rfl rfl rfl, ?_⟩
      refine List.forall_mem_cons.2 ⟨isGate_block 1 6 rfl rfl rfl, ?_⟩
      refine List.forall_mem_cons.2 ⟨isGate_block 1 5 rfl rfl rfl, ?_⟩
      refine List.forall_mem_cons.2 ⟨isGate_block 1 4 rfl rfl rfl, ?_⟩
      refine List.forall_mem_cons.2 ⟨isGate_block 1 3 rfl rfl rfl, ?_⟩
      refine List.forall_mem_cons.2 ⟨isGate_block 1 2 rfl rfl rfl, ?_⟩
      refine List.forall_mem_cons.2 ⟨isGate_block 1 1 rfl rfl rfl, ?_⟩
      refine List.forall_mem_cons.2 ⟨isGate_block 1 0 rfl rfl rfl, ?_⟩
      refine List.forall_mem_cons.2 ⟨isGate_block 0 7 rfl rfl rfl, ?_⟩
      refine List.forall_mem_cons.2 ⟨isGate_block 0 6 rfl rfl rfl, ?_⟩
      refine List.forall_mem_cons.2 ⟨isGate_block 0 5 rfl rfl rfl, ?_⟩
      refine List.forall_mem_cons.2 ⟨isGate_block 0 4 rfl rfl rfl, ?_⟩
      refine List.forall_mem_cons.2 ⟨isGate_block 0 3 rfl rfl rfl, ?_⟩
      refine List.forall_mem_cons.2 ⟨isGate_block 0 2 rfl rfl rfl, ?_⟩
      refine List.forall_mem_cons.2 ⟨isGate_block 0 1 rfl rfl rfl, ?_⟩
      refine List.forall_mem_cons.2 ⟨isGate_block 0 0 rfl rfl rfl, ?_⟩
      exact fun _ h => absurd h List.not_mem_nil) (by sl_kernel_rfl)
  isplitl [H8]
  · iexists _; isplitr; swap; · iexact H8
    ipureintro
    exact read_norm _ _ rfl rfl
  isplitl [H9]
  · iexists _; isplitr; swap; · iexact H9
    ipureintro
    rfl
  isplitl [H10]
  · iexists _; isplitr; swap; · iexact H10
    ipureintro
    rfl
  · iexists _; isplitr; swap; · iexact H11
    ipureintro
    exact read_proj _ _ rfl rfl

end Cert.SguIdeal.Value

end
-- ==== Proof.Sgu.Even.lean ====
/- The body at an even point between: this tile is projected into the first buffer, and the second buffer's tile is gated. -/
module

public import proofs.«01_k».proof.Proof.Sgu.Block

@[expose] public section

set_option maxRecDepth 16384

noncomputable section

namespace Cert.SguIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SguIdeal.Gen

variable {F : FTy → Type} [FloatOps F]

local notation "𝕄" => MT nD τ sig Unit (Elt F) ℕ (UR sig nD τ) ℕ

set_option maxHeartbeats 4000000 in
/-- The body at an even point between: this tile is projected into the first buffer, and the second buffer's tile is gated. -/
theorem run_even (c : Dev nD) (i : grid0.Coords)
    (arg1 : Memref sig .tc .vmem S512x2048 .f32) (harg1 : arg1.IsWhole)
    (arg2 : Memref sig .tc .vmem S1x2048 .f32) (harg2 : arg2.IsWhole)
    (arg3 : Memref sig .tc .vmem S1x2048x2048 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S8x128x128 .f32) (harg6 : arg6.IsWhole)
    (arg7 : Memref sig .tc .vmem S128x8 .f32) (harg7 : arg7.IsWhole)
    (arg8 : Memref sig .tc .vmem S512x1024 .bf16) (harg8 : arg8.IsWhole)
    (arg9 : Memref sig .tc .vmem S512x2048 .bf16) (harg9 : arg9.IsWhole)
    (arg10 : Memref sig .tc .vmem S2048x2048 .bf16) (harg10 : arg10.IsWhole)
    (arg11 : Memref sig .tc .vmem S512x2048 .f32) (harg11 : arg11.IsWhole)
    (arg12 : Memref sig .tc .vmem S512x2048 .f32) (harg12 : arg12.IsWhole)
    (hc0 : ¬cond0_0 i) (hc1 : cond0_1 i) (hc2 : ¬cond0_2 i) (hc3 : ¬cond0_3 i) (x0 : Vec F S512x2048 .f32) (x1 : Vec F S1x2048 .f32) (x2 : Vec F S1x2048x2048 .f32)
    (x3 x4 : Vec F S1x1024 .f32) (x5 : Vec F S8x128x128 .f32) (x6 : Vec F S128x8 .f32)
    (wb : Vec F S2048x2048 .bf16) (zb : Vec F S512x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ (∃ d, owns (c : Thread nD τ) arg8 fullShare d) ∗
          (∃ d, owns (c : Thread nD τ) arg9 fullShare d) ∗ owns (c : Thread nD τ) arg10 fullShare wb ∗
          (∃ d, owns (c : Thread nD τ) arg11 fullShare d) ∗ owns (c : Thread nD τ) arg12 fullShare zb
        ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare (gateTile zb x3 x4 x5 x6) ∗
          owns (c : Thread nD τ) arg9 fullShare (normTile x0 x1) ∗ owns (c : Thread nD τ) arg10 fullShare wb ∗
          owns (c : Thread nD τ) arg11 fullShare (projTile x0 x1 wb) ∗ owns (c : Thread nD τ) arg12 fullShare zb) -∗ K ⟨⟩))
      ⊢ wp frame (wpE (defs₀ (F := F)) Variants.none c none) E (cc0_sgu_branch i
          arg1 harg1 arg2 harg2 arg3 harg3 arg4 harg4 arg5 harg5 arg6 harg6 arg7 harg7 arg8 harg8 arg9 harg9 arg10 harg10 arg11 harg11 arg12 harg12) K := by
  rw [cc0_sgu_branch_eq_skeleton]; unfold cc0_sgu_branch_skel
  rw [k0_part70_eq_skeleton]; unfold k0_part70_skel
  rw [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%f11, %hf11, H11⟩, Hk⟩
  subst hf0 hf1 hf2 hf3 hf4 hf5 hf6 hf9 hf11
  sl_exec (disch := first | sl_exact hc0 | sl_exact hc1 | sl_exact hc2 | sl_exact hc3)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    exact read_gate _ _ (by
      refine List.forall_mem_cons.2 ⟨isGate_block 3 7 rfl rfl rfl, ?_⟩
      refine List.forall_mem_cons.2 ⟨isGate_block 3 6 rfl rfl rfl, ?_⟩
      refine List.forall_mem_cons.2 ⟨isGate_block 3 5 rfl rfl rfl, ?_⟩
      refine List.forall_mem_cons.2 ⟨isGate_block 3 4 rfl rfl rfl, ?_⟩
      refine List.forall_mem_cons.2 ⟨isGate_block 3 3 rfl rfl rfl, ?_⟩
      refine List.forall_mem_cons.2 ⟨isGate_block 3 2 rfl rfl rfl, ?_⟩
      refine List.forall_mem_cons.2 ⟨isGate_block 3 1 rfl rfl rfl, ?_⟩
      refine List.forall_mem_cons.2 ⟨isGate_block 3 0 rfl rfl rfl, ?_⟩
      refine List.forall_mem_cons.2 ⟨isGate_block 2 7 rfl rfl rfl, ?_⟩
      refine List.forall_mem_cons.2 ⟨isGate_block 2 6 rfl rfl rfl, ?_⟩
      refine List.forall_mem_cons.2 ⟨isGate_block 2 5 rfl rfl rfl, ?_⟩
      refine List.forall_mem_cons.2 ⟨isGate_block 2 4 rfl rfl rfl, ?_⟩
      refine List.forall_mem_cons.2 ⟨isGate_block 2 3 rfl rfl rfl, ?_⟩
      refine List.forall_mem_cons.2 ⟨isGate_block 2 2 rfl rfl rfl, ?_⟩
      refine List.forall_mem_cons.2 ⟨isGate_block 2 1 rfl rfl rfl, ?_⟩
      refine List.forall_mem_cons.2 ⟨isGate_block 2 0 rfl rfl rfl, ?_⟩
      refine List.forall_mem_cons.2 ⟨isGate_block 1 7 rfl rfl rfl, ?_⟩
      refine List.forall_mem_cons.2 ⟨isGate_block 1 6 rfl rfl rfl, ?_⟩
      refine List.forall_mem_cons.2 ⟨isGate_block 1 5 rfl rfl rfl, ?_⟩
      refine List.forall_mem_cons.2 ⟨isGate_block 1 4 rfl rfl rfl, ?_⟩
      refine List.forall_mem_cons.2 ⟨isGate_block 1 3 rfl rfl rfl, ?_⟩
      refine List.forall_mem_cons.2 ⟨isGate_block 1 2 rfl rfl rfl, ?_⟩
      refine List.forall_mem_cons.2 ⟨isGate_block 1 1 rfl rfl rfl, ?_⟩
      refine List.forall_mem_cons.2 ⟨isGate_block 1 0 rfl rfl rfl, ?_⟩
      refine List.forall_mem_cons.2 ⟨isGate_block 0 7 rfl rfl rfl, ?_⟩
      refine List.forall_mem_cons.2 ⟨isGate_block 0 6 rfl rfl rfl, ?_⟩
      refine List.forall_mem_cons.2 ⟨isGate_block 0 5 rfl rfl rfl, ?_⟩
      refine List.forall_mem_cons.2 ⟨isGate_block 0 4 rfl rfl rfl, ?_⟩
      refine List.forall_mem_cons.2 ⟨isGate_block 0 3 rfl rfl rfl, ?_⟩
      refine List.forall_mem_cons.2 ⟨isGate_block 0 2 rfl rfl rfl, ?_⟩
      refine List.forall_mem_cons.2 ⟨isGate_block 0 1 rfl rfl rfl, ?_⟩
      refine List.forall_mem_cons.2 ⟨isGate_block 0 0 rfl rfl rfl, ?_⟩
      exact fun _ h => absurd h List.not_mem_nil) (by sl_kernel_rfl)
  isplitl [H8]
  · iexists _; isplitr; swap; · iexact H8
    ipureintro
    exact read_norm _ _ rfl rfl
  isplitl [H9]
  · iexists _; isplitr; swap; · iexact H9
    ipureintro
    rfl
  isplitl [H10]
  · iexists _; isplitr; swap; · iexact H10
    ipureintro
    exact read_proj _ _ rfl rfl
  · iexists _; isplitr; swap; · iexact H11
    ipureintro
    rfl

end Cert.SguIdeal.Value

end
-- ==== Proof.Sgu.Last.lean ====
/- The body at the last point: the last tile's projection is gated; everything else stays as it was. -/
module

public import proofs.«01_k».proof.Proof.Sgu.Block

@[expose] public section

set_option maxRecDepth 16384

noncomputable section

namespace Cert.SguIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SguIdeal.Gen

variable {F : FTy → Type} [FloatOps F]

local notation "𝕄" => MT nD τ sig Unit (Elt F) ℕ (UR sig nD τ) ℕ

set_option maxHeartbeats 4000000 in
/-- The body at the last point: the last tile's projection is gated; everything else stays as it was. -/
theorem run_last (c : Dev nD) (i : grid0.Coords)
    (arg1 : Memref sig .tc .vmem S512x2048 .f32) (harg1 : arg1.IsWhole)
    (arg2 : Memref sig .tc .vmem S1x2048 .f32) (harg2 : arg2.IsWhole)
    (arg3 : Memref sig .tc .vmem S1x2048x2048 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S8x128x128 .f32) (harg6 : arg6.IsWhole)
    (arg7 : Memref sig .tc .vmem S128x8 .f32) (harg7 : arg7.IsWhole)
    (arg8 : Memref sig .tc .vmem S512x1024 .bf16) (harg8 : arg8.IsWhole)
    (arg9 : Memref sig .tc .vmem S512x2048 .bf16) (harg9 : arg9.IsWhole)
    (arg10 : Memref sig .tc .vmem S2048x2048 .bf16) (harg10 : arg10.IsWhole)
    (arg11 : Memref sig .tc .vmem S512x2048 .f32) (harg11 : arg11.IsWhole)
    (arg12 : Memref sig .tc .vmem S512x2048 .f32) (harg12 : arg12.IsWhole)
    (hc0 : ¬cond0_0 i) (hc1 : ¬cond0_1 i) (hc2 : ¬cond0_2 i) (hc3 : cond0_3 i) (x0 : Vec F S512x2048 .f32) (x1 : Vec F S1x2048 .f32) (x2 : Vec F S1x2048x2048 .f32)
    (x3 x4 : Vec F S1x1024 .f32) (x5 : Vec F S8x128x128 .f32) (x6 : Vec F S128x8 .f32)
    (y8 : Vec F S512x2048 .bf16) (wb : Vec F S2048x2048 .bf16) (za : Vec F S512x2048 .f32) (zb : Vec F S512x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ (∃ d, owns (c : Thread nD τ) arg8 fullShare d) ∗
          owns (c : Thread nD τ) arg9 fullShare y8 ∗ owns (c : Thread nD τ) arg10 fullShare wb ∗ owns (c : Thread nD τ) arg11 fullShare za ∗
          owns (c : Thread nD τ) arg12 fullShare zb
        ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare (gateTile zb x3 x4 x5 x6) ∗
          owns (c : Thread nD τ) arg9 fullShare y8 ∗ owns (c : Thread nD τ) arg10 fullShare wb ∗ owns (c : Thread nD τ) arg11 fullShare za ∗
          owns (c : Thread nD τ) arg12 fullShare zb) -∗ K ⟨⟩))
      ⊢ wp frame (wpE (defs₀ (F := F)) Variants.none c none) E (cc0_sgu_branch i
          arg1 harg1 arg2 harg2 arg3 harg3 arg4 harg4 arg5 harg5 arg6 harg6 arg7 harg7 arg8 harg8 arg9 harg9 arg10 harg10 arg11 harg11 arg12 harg12) K := by
  rw [cc0_sgu_branch_eq_skeleton]; unfold cc0_sgu_branch_skel
  rw [k0_part70_eq_skeleton, k0_part69_eq_skeleton]
  unfold k0_part69_skel
  rw [k0_part48_eq_skeleton, k0_part49_eq_skeleton, k0_part50_eq_skeleton, k0_part51_eq_skeleton, k0_part52_eq_skeleton,
    k0_part53_eq_skeleton, k0_part54_eq_skeleton, k0_part55_eq_skeleton, k0_part56_eq_skeleton, k0_part57_eq_skeleton,
    k0_part58_eq_skeleton, k0_part59_eq_skeleton, k0_part60_eq_skeleton, k0_part61_eq_skeleton, k0_part62_eq_skeleton,
    k0_part63_eq_skeleton, k0_part64_eq_skeleton, k0_part65_eq_skeleton, k0_part66_eq_skeleton, k0_part67_eq_skeleton,
    k0_part68_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf0 hf1 hf2 hf3 hf4 hf5 hf6 hf8 hf9 hf10 hf11
  sl_exec (disch := first | sl_exact hc0 | sl_exact hc1 | sl_exact hc2 | sl_exact hc3)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    exact read_gate _ _ (by
      refine List.forall_mem_cons.2 ⟨isGate_block 3 7 rfl rfl rfl, ?_⟩
      refine List.forall_mem_cons.2 ⟨isGate_block 3 6 rfl rfl rfl, ?_⟩
      refine List.forall_mem_cons.2 ⟨isGate_block 3 5 rfl rfl rfl, ?_⟩
      refine List.forall_mem_cons.2 ⟨isGate_block 3 4 rfl rfl rfl, ?_⟩
      refine List.forall_mem_cons.2 ⟨isGate_block 3 3 rfl rfl rfl, ?_⟩
      refine List.forall_mem_cons.2 ⟨isGate_block 3 2 rfl rfl rfl, ?_⟩
      refine List.forall_mem_cons.2 ⟨isGate_block 3 1 rfl rfl rfl, ?_⟩
      refine List.forall_mem_cons.2 ⟨isGate_block 3 0 rfl rfl rfl, ?_⟩
      refine List.forall_mem_cons.2 ⟨isGate_block 2 7 rfl rfl rfl, ?_⟩
      refine List.forall_mem_cons.2 ⟨isGate_block 2 6 rfl rfl rfl, ?_⟩
      refine List.forall_mem_cons.2 ⟨isGate_block 2 5 rfl rfl rfl, ?_⟩
      refine List.forall_mem_cons.2 ⟨isGate_block 2 4 rfl rfl rfl, ?_⟩
      refine List.forall_mem_cons.2 ⟨isGate_block 2 3 rfl rfl rfl, ?_⟩
      refine List.forall_mem_cons.2 ⟨isGate_block 2 2 rfl rfl rfl, ?_⟩
      refine List.forall_mem_cons.2 ⟨isGate_block 2 1 rfl rfl rfl, ?_⟩
      refine List.forall_mem_cons.2 ⟨isGate_block 2 0 rfl rfl rfl, ?_⟩
      refine List.forall_mem_cons.2 ⟨isGate_block 1 7 rfl rfl rfl, ?_⟩
      refine List.forall_mem_cons.2 ⟨isGate_block 1 6 rfl rfl rfl, ?_⟩
      refine List.forall_mem_cons.2 ⟨isGate_block 1 5 rfl rfl rfl, ?_⟩
      refine List.forall_mem_cons.2 ⟨isGate_block 1 4 rfl rfl rfl, ?_⟩
      refine List.forall_mem_cons.2 ⟨isGate_block 1 3 rfl rfl rfl, ?_⟩
      refine List.forall_mem_cons.2 ⟨isGate_block 1 2 rfl rfl rfl, ?_⟩
      refine List.forall_mem_cons.2 ⟨isGate_block 1 1 rfl rfl rfl, ?_⟩
      refine List.forall_mem_cons.2 ⟨isGate_block 1 0 rfl rfl rfl, ?_⟩
      refine List.forall_mem_cons.2 ⟨isGate_block 0 7 rfl rfl rfl, ?_⟩
      refine List.forall_mem_cons.2 ⟨isGate_block 0 6 rfl rfl rfl, ?_⟩
      refine List.forall_mem_cons.2 ⟨isGate_block 0 5 rfl rfl rfl, ?_⟩
      refine List.forall_mem_cons.2 ⟨isGate_block 0 4 rfl rfl rfl, ?_⟩
      refine List.forall_mem_cons.2 ⟨isGate_block 0 3 rfl rfl rfl, ?_⟩
      refine List.forall_mem_cons.2 ⟨isGate_block 0 2 rfl rfl rfl, ?_⟩
      refine List.forall_mem_cons.2 ⟨isGate_block 0 1 rfl rfl rfl, ?_⟩
      refine List.forall_mem_cons.2 ⟨isGate_block 0 0 rfl rfl rfl, ?_⟩
      exact fun _ h => absurd h List.not_mem_nil) (by sl_kernel_rfl)
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  · iexists _; isplitr; swap; · iexact H11
    ipureintro
    rfl

end Cert.SguIdeal.Value

end
-- ==== Proof.Sgu.Frame.lean ====
/- The run of the gating kernel: its body at every point of the grid, with what the scratch buffers carry from one
   point to the next, and what its two result arrays hold in the end. Stated over any floats. -/
module

public import proofs.«01_k».proof.Proof.Sgu.First
public import proofs.«01_k».proof.Proof.Sgu.Odd
public import proofs.«01_k».proof.Proof.Sgu.Even
public import proofs.«01_k».proof.Proof.Sgu.Last
public import Idealize.ShloMosaic.Lib.Claim

@[expose] public section

set_option maxRecDepth 16384

noncomputable section

namespace Cert.SguIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SguIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt17 (t : Fin cfg0.N) : t.val < 17 := Nat.lt_of_lt_of_eq t.isLt N_0

/-- The weights are cast at the first point only, -/
theorem at_first : ∀ t : Fin cfg0.N, cond0_0 (grid0.coords t) ↔ t.val = 0 :=
  (by decide +kernel : ∀ t : Fin grid0.N, cond0_0 (grid0.coords t) ↔ t.val = 0)
/-- the points that project into the first buffer and gate the second, -/
theorem at_even : ∀ t : Fin cfg0.N, cond0_1 (grid0.coords t) ↔ (t.val % 2 = 0 ∧ t.val ≠ 0 ∧ t.val ≠ 16) :=
  (by decide +kernel : ∀ t : Fin grid0.N, cond0_1 (grid0.coords t) ↔ (t.val % 2 = 0 ∧ t.val ≠ 0 ∧ t.val ≠ 16))
/-- those that project into the second and gate the first, -/
theorem at_odd : ∀ t : Fin cfg0.N, cond0_2 (grid0.coords t) ↔ t.val % 2 = 1 :=
  (by decide +kernel : ∀ t : Fin grid0.N, cond0_2 (grid0.coords t) ↔ t.val % 2 = 1)
/-- and the last, which only gates. -/
theorem at_last : ∀ t : Fin cfg0.N, cond0_3 (grid0.coords t) ↔ t.val = 16 :=
  (by decide +kernel : ∀ t : Fin grid0.N, cond0_3 (grid0.coords t) ↔ t.val = 16)

/-- The gated block is not stored at the first point, -/
theorem idle7 : ∀ t : Fin cfg0.N, cfg0.idle 7 (grid0.coords t) = decide (t.val = 0) :=
  (by decide +kernel : ∀ t : Fin grid0.N, idle0 7 (grid0.coords t) = decide (t.val = 0))
/-- and the normalised block not at the last. -/
theorem idle8 : ∀ t : Fin cfg0.N, cfg0.idle 8 (grid0.coords t) = decide (t.val = 16) :=
  (by decide +kernel : ∀ t : Fin grid0.N, idle0 8 (grid0.coords t) = decide (t.val = 16))
/-- The gated block is written back at every point but the first, -/
theorem flush7 : ∀ t : Fin cfg0.N, (cfg0.win 7).flush t = decide (t.val ≠ 0) :=
  (by decide +kernel : ∀ t : Fin grid0.N, win0_7.flush t = decide (t.val ≠ 0))
/-- and the normalised block at every point but the last but one. -/
theorem flush8 : ∀ t : Fin cfg0.N, (cfg0.win 8).flush t = decide (t.val ≠ 15) :=
  (by decide +kernel : ∀ t : Fin grid0.N, win0_8.flush t = decide (t.val ≠ 15))

/-- The first point, -/
def first : Fin cfg0.N := ⟨0, by rw [show cfg0.N = 17 from N_0]; omega⟩
/-- the point before, -/
def prev (t : Fin cfg0.N) : Fin cfg0.N := ⟨t.val - 1, Nat.lt_of_le_of_lt (Nat.sub_le _ _) t.isLt⟩
/-- and the point whose tile the point normalises: the last tile is held once more. -/
def tileOf (t : Fin cfg0.N) : Fin cfg0.N := ⟨min t.val 15, Nat.lt_of_le_of_lt (Nat.min_le_left _ _) t.isLt⟩

/-! ## What the buffers hold -/

/-- The weights as the kernel multiplies by them. -/
def weights (c : Dev nD) : Vec F S2048x2048 .bf16 := castWeight (iblk m c 2 first)
/-- The projection of the tile of point `t`. -/
def zAt (c : Dev nD) (t : Fin cfg0.N) : Vec F S512x2048 .f32 := projTile (iblk m c 0 t) (iblk m c 1 t) (weights m c)
/-- The normalised tile of point `t`. -/
def hAt (c : Dev nD) (t : Fin cfg0.N) : Vec F S512x2048 .bf16 := normTile (iblk m c 0 t) (iblk m c 1 t)
/-- The gated tile stored at point `t`: that of the point before. -/
def yAt (c : Dev nD) (t : Fin cfg0.N) : Vec F S512x1024 .bf16 :=
  gateTile (zAt m c (prev t)) (iblk m c 3 t) (iblk m c 4 t) (iblk m c 5 t) (iblk m c 6 t)

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x2048x2048 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S8x128x128 .f32 := win0_5.stage (cfg0.slots t 5)
abbrev ms0_6 (t : Fin cfg0.N) : Memref sig .tc .vmem S128x8 .f32 := win0_6.stage (cfg0.slots t 6)
abbrev ms0_7 (t : Fin cfg0.N) : Memref sig .tc .vmem S512x1024 .bf16 := win0_7.stage (cfg0.slots t 7)
abbrev ms0_8 (t : Fin cfg0.N) : Memref sig .tc .vmem S512x2048 .bf16 := win0_8.stage (cfg0.slots t 8)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev hs0_8 (t : Fin cfg0.N) : (ms0_8 t).IsWhole := hstage0_8 ((cfg0.slots t 8).cast nbuf0_8)
/-- The cast weights' buffer and the two projection buffers. -/
abbrev bufW : Memref sig .tc .vmem S2048x2048 .bf16 := Memref.whole cc0_scratch0
abbrev bufA : Memref sig .tc .vmem S512x2048 .f32 := Memref.whole cc0_scratch1
abbrev bufB : Memref sig .tc .vmem S512x2048 .f32 := Memref.whole cc0_scratch2

/-- The scratch buffers at some contents, and the generator's register. -/
theorem scratch_any (c : Dev nD) :
    (Pipeline.ΦA spec0 c : sProp 𝕄)
      = iprop(iprop((∃ d, owns (c : Thread nD τ) bufW fullShare d) ∗ (∃ d, owns (c : Thread nD τ) bufA fullShare d) ∗ (∃ d, owns (c : Thread nD τ) bufB fullShare d)) ∗ (∃ r, prngReg c r)) := by
  unfold Pipeline.ΦA; rw [scopedRest0_eq]; simp only [bufW, bufA, bufB, owns_whole]; try rfl

/-- What the two projection buffers hold after point `t`: the point's projection in the one of its parity; after the
    last point nothing is read from them again. -/
def projs (c : Dev nD) (t : Fin cfg0.N) : sProp 𝕄 :=
  if t.val = 16 then
    iprop((∃ d, owns (c : Thread nD τ) bufA fullShare d) ∗ (∃ d, owns (c : Thread nD τ) bufB fullShare d))
  else if t.val % 2 = 0 then
    iprop(owns (c : Thread nD τ) bufA fullShare (zAt m c t) ∗ (∃ d, owns (c : Thread nD τ) bufB fullShare d))
  else
    iprop((∃ d, owns (c : Thread nD τ) bufA fullShare d) ∗ owns (c : Thread nD τ) bufB fullShare (zAt m c t))

theorem projs_last (c : Dev nD) (t : Fin cfg0.N) (h : t.val = 16) : projs m c t =
    iprop((∃ d, owns (c : Thread nD τ) bufA fullShare d) ∗ (∃ d, owns (c : Thread nD τ) bufB fullShare d)) := if_pos h
theorem projs_even (c : Dev nD) (t : Fin cfg0.N) (h : t.val ≠ 16) (h2 : t.val % 2 = 0) : projs m c t =
    iprop(owns (c : Thread nD τ) bufA fullShare (zAt m c t) ∗ (∃ d, owns (c : Thread nD τ) bufB fullShare d)) :=
  (if_neg h).trans (if_pos h2)
theorem projs_odd (c : Dev nD) (t : Fin cfg0.N) (h : t.val ≠ 16) (h2 : ¬t.val % 2 = 0) : projs m c t =
    iprop((∃ d, owns (c : Thread nD τ) bufA fullShare d) ∗ owns (c : Thread nD τ) bufB fullShare (zAt m c t)) :=
  (if_neg h).trans (if_neg h2)

/-- What the scratch holds before position `n`. -/
def carried (c : Dev nD) : (n : ℕ) → n ≤ cfg0.N → sProp 𝕄
  | 0, _ => Pipeline.ΦA spec0 c
  | n + 1, hn => iprop(iprop(owns (c : Thread nD τ) bufW fullShare (weights m c) ∗ projs m c ⟨n, hn⟩) ∗ (∃ r, prngReg c r))

theorem carried_zero (c : Dev nD) (n : ℕ) (h : n ≤ cfg0.N) (hz : n = 0) : carried m c n h = Pipeline.ΦA spec0 c := by
  subst hz; rfl

theorem carried_succ (c : Dev nD) (t : Fin cfg0.N) :
    carried m c (t.val + 1) t.isLt = iprop(iprop(owns (c : Thread nD τ) bufW fullShare (weights m c) ∗ projs m c t) ∗ (∃ r, prngReg c r)) := rfl

theorem carried_pos (c : Dev nD) (t : Fin cfg0.N) (h : t.val ≠ 0) :
    carried m c t.val (Nat.le_of_lt t.isLt) = iprop(iprop(owns (c : Thread nD τ) bufW fullShare (weights m c) ∗ projs m c (prev t)) ∗ (∃ r, prngReg c r)) := by
  obtain ⟨n, hn⟩ := t
  cases n with
  | zero => exact absurd rfl h
  | succ n => rfl

/-- The arrays as the kernel finds them, each input's block left in place, the gated tile of the point before and
    the normalised tile of the point, and the scratch as `carried` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => hAt m c (tileOf t)
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yAt m c t := by dsimp only [dats]
theorem after0_8 (c : Dev nD) (t : Fin cfg0.N) : (dats m 0 c).after 8 t = hAt m c (tileOf t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At the last point the normalised block's buffer still holds the last tile. -/
theorem before0_8 (c : Dev nD) (t : Fin cfg0.N) (h : t.val = 16) (d) : (dats m 0 c).before 8 t d = hAt m c (tileOf t) := by
  have hp : (prev t).val = 15 := by show t.val - 1 = 15; omega
  rw [(dats m 0 c).before_of_pos 8 t (by omega) ((cfg0.win 8).fetch_out rfl t) d]
  have e : (⟨t.val - 1, Nat.lt_of_le_of_lt (Nat.sub_le _ _) t.isLt⟩ : Fin cfg0.N) = prev t := rfl
  rw [e, flush8, hp]
  show (dats m 0 c).left 8 (prev t) d = _
  unfold Dat.left
  rw [show cfg0.idle 8 (cfg0.grid.coords (prev t)) = false from (idle8 (prev t)).trans (by rw [hp]; rfl)]
  show (dats m 0 c).kept 8 (prev t) d = _
  unfold Dat.kept
  rw [Pipeline.fill_of_clip_none 8 _ (fun _ => rfl) d ((dats m 0 c).after 8 _), Window.fill_cut, after0_8]
  congr 1
  exact Fin.ext (by show min (t.val - 1) 15 = min t.val 15; omega)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
/-- The gated block is stored at every point but the first, -/
theorem leaves0_7 (c : Dev nD) (t : Fin cfg0.N) (h : t.val ≠ 0) : (dats m 0 c).leavesExact 7 t = owns (c : Thread nD τ) (ms0_7 t) fullShare (yAt m c t) := by
  unfold Dat.leavesExact; rw [show cfg0.idle 7 (grid0.coords t) = false from (idle7 t).trans (decide_eq_false h), after0_7]
/-- where its buffer is handed back as it was found. -/
theorem leaves0_7_first (c : Dev nD) (t : Fin cfg0.N) (h : t.val = 0) :
    (dats m 0 c).leavesExact 7 t = iprop(∃ d, owns (c : Thread nD τ) (ms0_7 t) fullShare ((dats m 0 c).before 7 t d)) :=
  (dats m 0 c).leavesExact_idle 7 t ((idle7 t).trans (decide_eq_true h)) ((flush7 t).trans (by rw [h]; rfl))
/-- The normalised block holds the point's tile after every point: at the last, the tile of the point before, kept. -/
theorem leaves0_8 (c : Dev nD) (t : Fin cfg0.N) : (dats m 0 c).leavesExact 8 t = owns (c : Thread nD τ) (ms0_8 t) fullShare (hAt m c (tileOf t)) := by
  unfold Dat.leavesExact
  by_cases h : t.val = 16
  · rw [show cfg0.idle 8 (grid0.coords t) = true from (idle8 t).trans (decide_eq_true h),
      show (cfg0.win 8).flush t = true from (flush8 t).trans (by rw [h]; rfl), after0_8]
  · rw [show cfg0.idle 8 (grid0.coords t) = false from (idle8 t).trans (decide_eq_false h), after0_8]

theorem tileOf_eq (t : Fin cfg0.N) (h : t.val ≠ 16) : tileOf t = t :=
  Fin.ext (by have := lt17 t; show min t.val 15 = t.val; omega)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = carried m c (t.val + 1) t.isLt from rfl, carried_succ, carried_castSucc m c t]
  rw [leaves0_0, leaves0_1, leaves0_2, leaves0_3, leaves0_4, leaves0_5, leaves0_6, leaves0_8]
  have hN := lt17 t
  by_cases h0 : t.val = 0
  · have hc0 := (at_first t).mpr h0
    have hc1 : ¬cond0_1 (grid0.coords t) := fun h => absurd ((at_even t).mp h) (by omega)
    have hc2 : ¬cond0_2 (grid0.coords t) := fun h => absurd ((at_odd t).mp h) (by omega)
    have hc3 : ¬cond0_3 (grid0.coords t) := fun h => absurd ((at_last t).mp h) (by omega)
    have ht : t = first := Fin.ext h0
    rw [carried_zero m c _ _ h0, scratch_any, leaves0_7_first m c t h0, projs_even m c t (by omega) (by omega), tileOf_eq t (by omega)]
    iintro ⟨⟨⟨HW, HA, ⟨%zb, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) hc0 hc1 hc2 hc3 (iblk m c 0 t) (iblk m c 1 t) (iblk m c 2 t) (iblk m c 3 t) (iblk m c 4 t) (iblk m c 5 t) (iblk m c 6 t) ((dats m 0 c).before 7 t d7) zb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HW]; · iexact HW
    isplitl [HA]; · iexact HA
    isplitl [HB]; · iexact HB
    iintro ⟨H0, H1, H2, H3, H4, H5, H6, H7, H8, HW, HA, HB⟩
    have hw : castWeight (iblk m c 2 t) = weights m c := by rw [ht]; rfl
    have hz : projTile (iblk m c 0 t) (iblk m c 1 t) (castWeight (iblk m c 2 t)) = zAt m c t := by rw [hw]; rfl
    isplitl [HW HA HB Hg]
    · isplitl [HW HA HB]
      · isplitl [HW]; · rw [← hw]; iexact HW
        isplitl [HA]; · rw [← hz]; iexact HA
        iexists _; iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexact H8
  by_cases h16 : t.val = 16
  · have hc0 : ¬cond0_0 (grid0.coords t) := fun h => absurd ((at_first t).mp h) (by omega)
    have hc1 : ¬cond0_1 (grid0.coords t) := fun h => absurd ((at_even t).mp h) (by omega)
    have hc2 : ¬cond0_2 (grid0.coords t) := fun h => absurd ((at_odd t).mp h) (by omega)
    have hc3 := (at_last t).mpr h16
    rw [carried_pos m c t h0, projs_odd m c (prev t) (by show t.val - 1 ≠ 16; omega) (by show ¬(t.val - 1) % 2 = 0; omega),
      leaves0_7 m c t h0, projs_last m c t h16]
    simp only [before0_8 m c t h16]
    iintro ⟨⟨⟨HW, ⟨%za, HA⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) hc0 hc1 hc2 hc3 (iblk m c 0 t) (iblk m c 1 t) (iblk m c 2 t) (iblk m c 3 t) (iblk m c 4 t) (iblk m c 5 t) (iblk m c 6 t) (hAt m c (tileOf t)) (weights m c) za (zAt m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HW]; · iexact HW
    isplitl [HA]; · iexact HA
    isplitl [HB]; · iexact HB
    iintro ⟨H0, H1, H2, H3, H4, H5, H6, H7, H8, HW, HA, HB⟩
    isplitl [HW HA HB Hg]
    · isplitl [HW HA HB]
      · isplitl [HW]; · iexact HW
        isplitl [HA]; · iexists _; iexact HA
        iexists _; iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases h2 : t.val % 2 = 0
  · have hc0 : ¬cond0_0 (grid0.coords t) := fun h => absurd ((at_first t).mp h) (by omega)
    have hc1 := (at_even t).mpr ⟨h2, h0, h16⟩
    have hc2 : ¬cond0_2 (grid0.coords t) := fun h => absurd ((at_odd t).mp h) (by omega)
    have hc3 : ¬cond0_3 (grid0.coords t) := fun h => absurd ((at_last t).mp h) (by omega)
    rw [carried_pos m c t h0, projs_odd m c (prev t) (by show t.val - 1 ≠ 16; omega) (by show ¬(t.val - 1) % 2 = 0; omega),
      leaves0_7 m c t h0, projs_even m c t h16 h2, tileOf_eq t h16]
    iintro ⟨⟨⟨HW, HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_even c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) hc0 hc1 hc2 hc3 (iblk m c 0 t) (iblk m c 1 t) (iblk m c 2 t) (iblk m c 3 t) (iblk m c 4 t) (iblk m c 5 t) (iblk m c 6 t) (weights m c) (zAt m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HW]; · iexact HW
    isplitl [HA]; · iexact HA
    isplitl [HB]; · iexact HB
    iintro ⟨H0, H1, H2, H3, H4, H5, H6, H7, H8, HW, HA, HB⟩
    isplitl [HW HA HB Hg]
    · isplitl [HW HA HB]
      · isplitl [HW]; · iexact HW
        isplitl [HA]; · iexact HA
        iexists _; iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond0_0 (grid0.coords t) := fun h => absurd ((at_first t).mp h) (by omega)
    have hc1 : ¬cond0_1 (grid0.coords t) := fun h => absurd ((at_even t).mp h) (by omega)
    have hc2 := (at_odd t).mpr (by omega)
    have hc3 : ¬cond0_3 (grid0.coords t) := fun h => absurd ((at_last t).mp h) (by omega)
    rw [carried_pos m c t h0, projs_even m c (prev t) (by show t.val - 1 ≠ 16; omega) (by show (t.val - 1) % 2 = 0; omega),
      leaves0_7 m c t h0, projs_odd m c t h16 h2, tileOf_eq t h16]
    iintro ⟨⟨⟨HW, HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_odd c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) hc0 hc1 hc2 hc3 (iblk m c 0 t) (iblk m c 1 t) (iblk m c 2 t) (iblk m c 3 t) (iblk m c 4 t) (iblk m c 5 t) (iblk m c 6 t) (weights m c) (zAt m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HW]; · iexact HW
    isplitl [HA]; · iexact HA
    isplitl [HB]; · iexact HB
    iintro ⟨H0, H1, H2, H3, H4, H5, H6, H7, H8, HW, HA, HB⟩
    isplitl [HW HA HB Hg]
    · isplitl [HW HA HB]
      · isplitl [HW]; · iexact HW
        isplitl [HA]; · iexists _; iexact HA
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The row the region calls is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = carried m c 0 (Nat.zero_le _) from rfl, carried_zero m c 0 _ rfl]

theorem hout (c : Dev nD) : (dats m 0 c).Φ (Fin.last cfg0.N) ⊢ Pipeline.ΦA spec0 c := by
  rw [show (dats m 0 c).Φ (Fin.last cfg0.N)
        = iprop(iprop(owns (c : Thread nD τ) bufW fullShare (weights m c) ∗ projs m c ⟨16, by rw [show cfg0.N = 17 from N_0]; omega⟩) ∗ (∃ r, prngReg c r)) from rfl,
    projs_last m c _ rfl, scratch_any]
  iintro ⟨⟨HW, HA, HB⟩, Hg⟩
  isplitl [HW HA HB]
  · isplitl [HW]
    · iexists _; iexact HW
    isplitl [HA]
    · iexact HA
    iexact HB
  iexact Hg

/-! ## The run -/

set_option backward.isDefEq.respectTransparency.types false in
/-- The kernel's run from any memory: it ends, the arrays hold what the proof data says, and no semaphore is left up. -/
theorem run_main_quiescent : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (Q' := _) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ))
    ((θ_run defs _ _).mono (fun _ h => h.2) (run_main_quiescent m ρ))

end Cert.SguIdeal.Value

end
-- ==== Proof.Sgu.Math.lean ====
/- The gating branch over the extended reals, in plain functions of rows: what the kernel and the reference both
   compute. -/
module

public import Idealize.ShloMosaic.Lib.Pointwise

@[expose] public section

set_option maxRecDepth 16384

noncomputable section

namespace Cert.SguMath

open Idealize.ShloMosaic

/-- A row divided by its root mean square (2048 is 0x45000000, the epsilon 0x358637BD), times the gain. -/
def rmsRow (x g : Fin 2048 → EReal) (k : Fin 2048) : EReal :=
  x k * Ideal.rsqrt (Ideal.div (∑ j, x j * x j) (Ideal.ofBits FTy.f32 1157627904#32) + Ideal.ofBits FTy.f32 897988541#32) * g k

/-- A normalised row's product with one column of the weight. -/
def projRow (x g w : Fin 2048 → EReal) : EReal := ∑ k, rmsRow x g k * w k

/-- `0.5·z·(1 + erf(z/√2))`. -/
def gelu (z : EReal) : EReal :=
  Ideal.ofBits FTy.f32 1056964608#32 * z * (1 + Ideal.erf (z * Ideal.ofBits FTy.f32 1060439283#32))

/-- A row less its mean (1024 is 0x44800000). -/
def centred (v : Fin 1024 → EReal) (c : Fin 1024) : EReal := v c - Ideal.div (∑ j, v j) (Ideal.ofBits FTy.f32 1149239296#32)

/-- Layer norm of a row (the epsilon is 0x3727C5AC). -/
def normRow (v g b : Fin 1024 → EReal) (c : Fin 1024) : EReal :=
  centred v c * Ideal.rsqrt (Ideal.div (∑ j, centred v j * centred v j) (Ideal.ofBits FTy.f32 1149239296#32)
    + Ideal.ofBits FTy.f32 925353388#32) * g c + b c

/-- The value half of a projected row: the columns from 1024. -/
def valueCol (c : Fin 1024) : Fin 2048 := ⟨1024 + c.val, by omega⟩
/-- The gated half: the columns below 1024. -/
def gatedCol (c : Fin 1024) : Fin 2048 := ⟨c.val, by omega⟩

/-- Row `p`, column `c` of the gate of 128 projected rows `z`: the gated half's gelu times the value half, normalised and
    mixed over the 128 rows by the head's weights `w` for row `p` and its bias `b`. -/
def gate (z : Fin 128 → Fin 2048 → EReal) (lg lb : Fin 1024 → EReal) (w : Fin 128 → EReal) (b : EReal) (p : Fin 128)
    (c : Fin 1024) : EReal :=
  gelu (z p (gatedCol c)) * ((∑ j, w j * normRow (fun e => gelu (z j (valueCol e))) lg lb c) + b)

end Cert.SguMath

end
-- ==== Proof.Sgu.Values.lean ====
/- What the kernel's blocks hold over the extended reals: rows of the plain functions. -/
module

public import proofs.«01_k».proof.Proof.Sgu.Block
public import proofs.«01_k».proof.Proof.Sgu.Math

@[expose] public section

set_option maxRecDepth 16384

noncomputable section

namespace Cert.SguIdeal.Value

open Idealize.ShloMosaic Idealize.ShloMosaic.TcCoe Idealize.ShloMosaic.Tactic
open Cert.SguIdeal.Gen Cert.SguMath

/-- The normalised half at an element. -/
theorem normHalf_apply (x : Vec Ideal S256x2048 .f32) (g : Vec Ideal S1x2048 .f32) (j : S256x2048.Idx) :
    normHalf x g j = rmsRow (fun k => x (ix2 (j 0) k)) (fun k => g (ix2 0 k)) (j 1) := by
  unfold normHalf
  rw [whole_eq]
  unfold k0_pay86
  pointwise
  rw [show x j = x (ix2 (j 0) (j 1)) from congrArg x (eq_ix2 j)]
  rfl

/-- The projected half at an element. -/
theorem projHalf_apply (x : Vec Ideal S256x2048 .f32) (g : Vec Ideal S1x2048 .f32) (w : Vec Ideal S2048x2048 .bf16) (j : S256x2048.Idx) :
    projHalf x g w j = projRow (fun k => x (ix2 (j 0) k)) (fun k => g (ix2 0 k)) (fun k => w (ix2 k (j 1))) := by
  have hn := normHalf_apply x g
  unfold normHalf at hn
  unfold projHalf
  rw [whole_eq] at hn ⊢
  rw [whole_eq]
  unfold k0_pay87
  generalize k0_pay86 x g = h at hn
  pointwise
  unfold projRow
  exact Finset.sum_congr rfl fun k _ => congrArg (· * _) (hn _)

/-- The tile's normalised rows. -/
theorem normTile_apply (x : Vec Ideal S512x2048 .f32) (g : Vec Ideal S1x2048 .f32) (y : S512x2048.Idx) :
    normTile x g y = rmsRow (fun k => x (ix2 (y 0) k)) (fun k => g (ix2 0 k)) (y 1) := by
  unfold normTile
  rw [normHalf_apply]
  refine congrArg (fun r => rmsRow r _ _) (funext fun k => congrArg x (funext fun a => ?_))
  have h : (y 0).val < 512 := (y 0).isLt
  fin_cases a
  · exact Fin.ext (by show 256 * ((y 0).val / 256) + 1 * ((y 0).val % 256) = (y 0).val; omega)
  · exact Fin.ext (by show 0 + 1 * k.val = k.val; omega)

/-- The tile's projection. -/
theorem projTile_apply (x : Vec Ideal S512x2048 .f32) (g : Vec Ideal S1x2048 .f32) (w : Vec Ideal S2048x2048 .bf16) (y : S512x2048.Idx) :
    projTile x g w y = projRow (fun k => x (ix2 (y 0) k)) (fun k => g (ix2 0 k)) (fun k => w (ix2 k (y 1))) := by
  unfold projTile
  rw [projHalf_apply]
  refine congrArg (fun r => projRow r _ _) (funext fun k => congrArg x (funext fun a => ?_))
  have h : (y 0).val < 512 := (y 0).isLt
  fin_cases a
  · exact Fin.ext (by show 256 * ((y 0).val / 256) + 1 * ((y 0).val % 256) = (y 0).val; omega)
  · exact Fin.ext (by show 0 + 1 * k.val = k.val; omega)

/-- The cast weight is the weight. -/
theorem castWeight_apply (w : Vec Ideal S1x2048x2048 .f32) (y : S2048x2048.Idx) : castWeight w y = w (ix3 0 (y 0) (y 1)) := by
  unfold castWeight k0_pay3 weightRows
  pointwise
  refine congrArg w (funext fun a => ?_)
  have h : (y 0).val < 2048 := (y 0).isLt
  fin_cases a
  · rfl
  · exact Fin.ext (by show 256 * ((y 0).val / 256) + 1 * ((y 0).val % 256) = (y 0).val; omega)
  · exact Fin.ext (by show 0 + 1 * (y 1).val = (y 1).val; omega)

/-- The normalised value rows. -/
theorem valueNorm_apply (v : Vec Ideal S128x1024 .f32) (g b : Vec Ideal S1x1024 .f32) (j : S128x1024.Idx) :
    valueNorm v g b j = normRow (fun e => gelu (v (ix2 (j 0) e))) (fun e => g (ix2 0 e)) (fun e => b (ix2 0 e)) (j 1) := by
  unfold valueNorm
  rw [whole_eq, whole_eq]
  unfold k0_pay96 k0_pay95 k0_pay94 k0_pay92 k0_pay93
  pointwise
  rw [show v j = v (ix2 (j 0) (j 1)) from congrArg v (eq_ix2 j)]
  rfl

/-- One head of 128 rows. -/
theorem gateHead_apply (v : FVec Ideal S128x1024 .bf16) (w : Vec Ideal S1x128x128 .f32) (b : Vec Ideal S128x1 .f32)
    (u : Vec Ideal S128x128 .f32) (hh : Fin 8) (j : S128x128.Idx) :
    gateHead v w b u hh j = gelu (u j) * ((∑ k, w (ix3 0 (j 0) k) * v (ix2 k ⟨128 * hh.val + (j 1).val, by
      have h : (j 1).val < 128 := (j 1).isLt
      omega⟩)) + b (ix2 (j 0) 0)) := by
  unfold gateHead geluBlock
  pointwise
  rfl

/-- The row of the tile that is row `p` of the 128 rows `y` lies in. -/
def tileRow (r : Fin 512) (p : Fin 128) : Fin 512 := ⟨128 * (r.val / 128) + p.val, by omega⟩

/-- A projected tile's gate. -/
theorem gateTile_apply (z : Vec Ideal S512x2048 .f32) (lg lb : Vec Ideal S1x1024 .f32) (ws : Vec Ideal S8x128x128 .f32)
    (bs : Vec Ideal S128x8 .f32) (y : S512x1024.Idx) :
    gateTile z lg lb ws bs y = gate (fun p k => z (ix2 (tileRow (y 0) p) k)) (fun e => lg (ix2 0 e)) (fun e => lb (ix2 0 e))
      (fun k => ws (ix3 (headOf y) (inHead y 0) k)) (bs (ix2 (inHead y 0) (headOf y))) (inHead y 0) (y 1) := by
  have h0 : (y 0).val < 512 := (y 0).isLt
  have h1 : (y 1).val < 1024 := (y 1).isLt
  have ec : (⟨128 * (headOf y).val + (inHead y 1).val, by
      have h : (inHead y 1).val < 128 := (inHead y 1).isLt
      have h' := (headOf y).isLt
      omega⟩ : Fin 1024) = y 1 := Fin.ext (by show 128 * ((y 1).val / 128) + (y 1).val % 128 = (y 1).val; omega)
  unfold gateTile gateBlock gate
  rw [gateHead_apply]
  refine congrArg₂ (· * ·) (congrArg gelu (congrArg z (funext fun a => ?_))) (congrArg₂ (· + ·)
    (Finset.sum_congr rfl fun k _ => congrArg₂ (· * ·) (congrArg ws (funext fun a => ?_)) ?_) (congrArg bs (funext fun a => ?_)))
  · fin_cases a
    · exact Fin.ext (by show 128 * ((y 0).val / 128) + 1 * ((y 0).val % 128) = 128 * ((y 0).val / 128) + (y 0).val % 128; omega)
    · exact Fin.ext (by show 128 * ((y 1).val / 128) + 1 * ((y 1).val % 128) = (y 1).val; omega)
  · fin_cases a
    · exact Fin.ext (by show (headOf y).val + 1 * 0 = (headOf y).val; omega)
    · exact Fin.ext (by show 0 + 1 * (inHead y 0).val = (inHead y 0).val; omega)
    · exact Fin.ext (by show 0 + 1 * k.val = k.val; omega)
  · rw [ec, valueNorm_apply]
    refine congrArg (fun r => normRow r _ _ _) (funext fun e => congrArg gelu (congrArg z (funext fun a => ?_)))
    fin_cases a
    · exact Fin.ext (by show 128 * ((y 0).val / 128) + 1 * k.val = 128 * ((y 0).val / 128) + k.val; omega)
    · exact Fin.ext (by show 1024 + 1 * e.val = 1024 + e.val; omega)
  · fin_cases a
    · exact Fin.ext (by show 0 + 1 * (inHead y 0).val = (inHead y 0).val; omega)
    · exact Fin.ext (by show (headOf y).val + 1 * 0 = (headOf y).val; omega)

end Cert.SguIdeal.Value

end
-- ==== Proof.Sgu.RefValues.lean ====
/- What the reference computes over the extended reals, at an element. -/
module

public import proofs.«01_k».proof.Proof.Gen.SguRefIdeal.Read
public import proofs.«01_k».proof.Proof.Sgu.Math

@[expose] public section

set_option maxRecDepth 16384

noncomputable section

namespace Cert.SguRefIdeal.Value

open Idealize.ShloMosaic Idealize.ShloMosaic.TcCoe Idealize.ShloMosaic.Tactic
open Cert.SguRefIdeal Cert.SguRefIdeal.Gen Cert.SguRefIdeal.Read Cert.SguMath

variable (x0 : (⟨S4x2048x2048, .f32⟩ : BufTy).Contents (Elt Ideal)) (x1 : (⟨S2x2048, .f32⟩ : BufTy).Contents (Elt Ideal))
  (x2 : (⟨S1x2048x4096, .f32⟩ : BufTy).Contents (Elt Ideal)) (x3 x4 : (⟨S1x1024, .f32⟩ : BufTy).Contents (Elt Ideal))
  (x5 : (⟨S1x8x128x128, .f32⟩ : BufTy).Contents (Elt Ideal)) (x6 : (⟨S1x8x128, .f32⟩ : BufTy).Contents (Elt Ideal))

/-- The normalised rows. -/
theorem normed (i : S4x2048x2048.Idx) :
    val_main_v14 (F := Ideal) x0 x1 i = rmsRow (fun k => x0 (ix3 (i 0) (i 1) k)) (fun k => x1 (ix2 0 k)) (i 2) := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rw [show x0 i = x0 (ix3 (i 0) (i 1) (i 2)) from congrArg x0 (eq_ix3 i)]
  rfl

/-- The projected rows' columns from 2048. -/
theorem projected (i : S4x2048x2048.Idx) :
    val_main_v17 (F := Ideal) x0 x1 x2 i = projRow (fun k => x0 (ix3 (i 0) (i 1) k)) (fun k => x1 (ix2 0 k))
      (fun k => x2 (ix3 0 k ⟨2048 + (i 2).val, by have h : (i 2).val < 2048 := (i 2).isLt; omega⟩)) := by
  have hn := normed x0 x1
  unfold val_main_v17 val_main_v16 val_main_v15
  generalize val_main_v14 (F := Ideal) x0 x1 = h at hn
  pointwise
  unfold projRow
  exact Finset.sum_congr rfl fun k _ => congrArg (· * _) (hn _)

/-- Their gelu. -/
theorem activated (i : S4x2048x2048.Idx) :
    val_main_v28 (F := Ideal) x0 x1 x2 i = gelu (val_main_v17 (F := Ideal) x0 x1 x2 i) := by
  unfold val_main_v28 val_main_v27 val_main_v26 val_main_v25 val_main_v24 val_main_v23 val_main_v22 val_main_cst_2 val_main_cst_3
  generalize val_main_v17 (F := Ideal) x0 x1 x2 = z
  pointwise
  rw [neg_mul, Ideal.erfc_neg]
  rfl

/-- The value half's layer norm. -/
theorem valued (i : S4x2048x1024.Idx) :
    val_main_v52 (F := Ideal) x0 x1 x2 x3 x4 i = normRow (fun e => val_main_v28 (F := Ideal) x0 x1 x2 (ix3 (i 0) (i 1) (valueCol e)))
      (fun e => x3 (ix2 0 e)) (fun e => x4 (ix2 0 e)) (i 2) := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v19 val_main_v18 val_main_cst_4 val_main_cst_5 val_main_cst_6 val_main_cst_7 val_main_cst_8
  generalize val_main_v28 (F := Ideal) x0 x1 x2 = z
  pointwise
  rfl

/-- The batch and the place in it of a flat row, -/
def batchOf (r : Fin 8192) : Fin 4 := ⟨r.val / 2048, by omega⟩
def placeOf (r : Fin 8192) : Fin 2048 := ⟨r.val % 2048, by omega⟩
/-- and the row that is row `p` of the 128 rows it lies in. -/
def mixRow (r : Fin 8192) (p : Fin 128) : Fin 2048 := ⟨r.val % 2048 / 128 * 128 + p.val, by omega⟩

/-- The head of a column, -/
def headCol (c : Fin 1024) : Fin 8 := ⟨c.val / 128, by omega⟩
/-- and the place of a flat row in its 128 rows. -/
def inMix (r : Fin 8192) : Fin 128 := ⟨r.val % 2048 % 128, by omega⟩

/-- The gated rows. -/
theorem gated (i : S8192x1024.Idx) : val_main_v63 (F := Ideal) x0 x1 x2 x3 x4 x5 x6 i
    = gate (fun p k => projRow (fun l => x0 (ix3 (batchOf (i 0)) (mixRow (i 0) p) l)) (fun l => x1 (ix2 0 l))
        (fun l => x2 (ix3 0 l ⟨2048 + k.val, by omega⟩))) (fun e => x3 (ix2 0 e)) (fun e => x4 (ix2 0 e))
      (fun k => x5 (ix4 0 (headCol (i 1)) (inMix (i 0)) k)) (x6 (ix3 0 (headCol (i 1)) (inMix (i 0)))) (inMix (i 0)) (i 1) := by
  have hv := valued x0 x1 x2 x3 x4
  have ha := activated x0 x1 x2
  have hp := projected x0 x1 x2
  unfold val_main_v63 val_main_v62 val_main_v61 val_main_v60 val_main_v59 val_main_v58 val_main_v57 val_main_v56 val_main_v55 val_main_v54 val_main_v53 val_main_v29 val_main_v21 val_main_v20
  generalize val_main_v52 (F := Ideal) x0 x1 x2 x3 x4 = v at hv
  generalize val_main_v28 (F := Ideal) x0 x1 x2 = z at hv ha
  generalize val_main_v17 (F := Ideal) x0 x1 x2 = u at ha hp
  pointwise
  unfold gate
  refine congrArg₂ (· * ·) ?_ (congrArg (· + _) (Finset.sum_congr rfl fun k _ => ?_))
  · rw [ha, hp]
    refine congrArg gelu (congrArg (fun r => projRow r _ _) (funext fun l => congrArg x0 (congrArg (fun s => ix3 _ s l) (Fin.ext ?_))))
    show (i 0).val % 2048 = (i 0).val % 2048 / 128 * 128 + (i 0).val % 2048 % 128
    omega
  · rw [mul_comm, hv]
    refine congrArg (_ * ·) (congrArg (fun r => normRow r _ _ _) (funext fun e => ?_))
    rw [ha, hp]
    rfl

/-- The normalised rows, flat. -/
theorem normed_out (i : S8192x2048.Idx) : val_main_v65 (F := Ideal) x0 x1 i
    = rmsRow (fun k => x0 (ix3 (batchOf (i 0)) (placeOf (i 0)) k)) (fun k => x1 (ix2 0 k)) (i 1) := by
  have hn := normed x0 x1
  unfold val_main_v65 val_main_v64
  generalize val_main_v14 (F := Ideal) x0 x1 = z at hn
  pointwise
  exact hn _

end Cert.SguRefIdeal.Value

end
-- ==== Proof.Sgu.Arrays.lean ====
/- What the gating kernel's blocks are read from, and what its two result arrays hold in the end, over the extended
   reals. -/
module

public import proofs.«01_k».proof.Proof.Sgu.Frame
public import proofs.«01_k».proof.Proof.Sgu.Values
public import proofs.«01_k».proof.Proof.Sgu.RefValues
public import Idealize.ShloMosaic.Lib.StableHlo.ReadAt
public import Idealize.ShloMosaic.Lib.Pipeline.ValueKit

@[expose] public section

set_option maxRecDepth 16384

noncomputable section

namespace Cert.SguIdeal.Value

open Idealize.ShloMosaic Idealize.ShloMosaic.TcCoe Idealize.ShloMosaic.Tactic
open Idealize.ShloMosaic.Pipeline (Dat Cfg Window)
open Cert.SguIdeal.Gen Cert.SguMath
open Cert.SguRefIdeal.Value (batchOf placeOf mixRow headCol inMix)

variable (m : (ℓ : Loc nD τ sig) → Buf (Elt Ideal) ℓ)

/-! ## The arrays the region finds -/

theorem flat_at (c : Dev nD) (j : S8192x2048.Idx) :
    V m c main_v0 j = m ((c : Thread nD τ).loc main_arg0) (ix3 (batchOf (j 0)) (placeOf (j 0)) (j 1)) := by
  unfold V
  after_reads_at
  rfl
theorem gain_at (c : Dev nD) (j : S1x2048.Idx) :
    V m c main_v7 j = m ((c : Thread nD τ).loc main_arg1) (ix2 0 (j 1)) := by
  unfold V
  after_reads_at
theorem lg_at (c : Dev nD) (j : S1x1024.Idx) :
    V m c main_v8 j = m ((c : Thread nD τ).loc main_arg3) (ix2 0 (j 1)) := by
  unfold V
  after_reads_at
theorem lb_at (c : Dev nD) (j : S1x1024.Idx) :
    V m c main_v9 j = m ((c : Thread nD τ).loc main_arg4) (ix2 0 (j 1)) := by
  unfold V
  after_reads_at
theorem ws_at (c : Dev nD) (j : S8x128x128.Idx) :
    V m c main_v5 j = m ((c : Thread nD τ).loc main_arg5) (ix4 0 (j 0) (j 1) (j 2)) := by
  unfold V
  after_reads_at
theorem bs_at (c : Dev nD) (j : S128x8.Idx) :
    V m c main_v10 j = m ((c : Thread nD τ).loc main_arg6) (ix3 0 (j 1) (j 0)) := by
  unfold V
  after_reads_at

/-! ## The windows' blocks -/

theorem idx0 : ∀ t : Fin cfg0.N, win0_0.index t = ![min t.val 15, 0] :=
  (by decide +kernel : ∀ t : Fin grid0.N, win0_0.index t = ![min t.val 15, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 1] :=
  (by decide +kernel : ∀ t : Fin grid0.N, win0_2.index t = ![0, 0, 1])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val - 1, 0] :=
  (by decide +kernel : ∀ t : Fin grid0.N, win0_7.index t = ![t.val - 1, 0])
theorem idx8 : ∀ t : Fin cfg0.N, win0_8.index t = ![min t.val 15, 0] :=
  (by decide +kernel : ∀ t : Fin grid0.N, win0_8.index t = ![min t.val 15, 0])

/-- The flat row that row `r` of tile `t` is. -/
def flatRow (t : Fin cfg0.N) (r : Fin 512) : Fin 8192 := ⟨512 * min t.val 15 + r.val, by omega⟩

theorem x_at (c : Dev nD) (t : Fin cfg0.N) (r : Fin 512) (k : Fin 2048) : iblk m c 0 t (ix2 r k)
    = m ((c : Thread nD τ).loc main_arg0) (ix3 (batchOf (flatRow t r)) (placeOf (flatRow t r)) k) := by
  refine Eq.trans ?_ (flat_at m c (ix2 (flatRow t r) k))
  unfold iblk
  blk_ext [idx0 t, flatRow]

theorem g_at (c : Dev nD) (t : Fin cfg0.N) (k : Fin 2048) : iblk m c 1 t (ix2 0 k)
    = m ((c : Thread nD τ).loc main_arg1) (ix2 0 k) := by
  refine Eq.trans ?_ (gain_at m c (ix2 0 k))
  unfold iblk
  blk_ext [idx1 t]

theorem w_at (c : Dev nD) (t : Fin cfg0.N) (k l : Fin 2048) : iblk m c 2 t (ix3 0 k l)
    = m ((c : Thread nD τ).loc main_arg2) (ix3 0 k ⟨2048 + l.val, by omega⟩) := by
  refine Eq.trans ?_ (congrFun (V_main_arg2 m c) _)
  unfold iblk
  blk_ext [idx2 t]

theorem l_at (c : Dev nD) (t : Fin cfg0.N) (k : Fin 1024) : iblk m c 3 t (ix2 0 k)
    = m ((c : Thread nD τ).loc main_arg3) (ix2 0 k) := by
  refine Eq.trans ?_ (lg_at m c (ix2 0 k))
  unfold iblk
  blk_ext [idx3 t]

theorem b_at (c : Dev nD) (t : Fin cfg0.N) (k : Fin 1024) : iblk m c 4 t (ix2 0 k)
    = m ((c : Thread nD τ).loc main_arg4) (ix2 0 k) := by
  refine Eq.trans ?_ (lb_at m c (ix2 0 k))
  unfold iblk
  blk_ext [idx4 t]

theorem s_at (c : Dev nD) (t : Fin cfg0.N) (h : Fin 8) (p k : Fin 128) : iblk m c 5 t (ix3 h p k)
    = m ((c : Thread nD τ).loc main_arg5) (ix4 0 h p k) := by
  refine Eq.trans ?_ (ws_at m c (ix3 h p k))
  unfold iblk
  blk_ext [idx5 t]

theorem d_at (c : Dev nD) (t : Fin cfg0.N) (p : Fin 128) (h : Fin 8) : iblk m c 6 t (ix2 p h)
    = m ((c : Thread nD τ).loc main_arg6) (ix3 0 h p) := by
  refine Eq.trans ?_ (bs_at m c (ix2 p h))
  unfold iblk
  blk_ext [idx6 t]

/-! ## The tiles -/

/-- The projection of a tile, at an element. -/
theorem z_at (c : Dev nD) (t : Fin cfg0.N) (r : Fin 512) (k : Fin 2048) : zAt m c t (ix2 r k)
    = projRow (fun l => m ((c : Thread nD τ).loc main_arg0) (ix3 (batchOf (flatRow t r)) (placeOf (flatRow t r)) l))
        (fun l => m ((c : Thread nD τ).loc main_arg1) (ix2 0 l))
        (fun l => m ((c : Thread nD τ).loc main_arg2) (ix3 0 l ⟨2048 + k.val, by omega⟩)) := by
  unfold zAt weights
  rw [projTile_apply]
  have hx : (fun l => iblk m c 0 t (ix2 r l)) = _ := funext fun l => x_at m c t r l
  have hg : (fun l => iblk m c 1 t (ix2 0 l)) = _ := funext fun l => g_at m c t l
  have hw : (fun l => castWeight (iblk m c 2 first) (ix2 l k)) = _ :=
    funext fun l => (castWeight_apply _ _).trans (w_at m c first l k)
  exact congr (congr (congrArg projRow hx) hg) hw

/-- The normalised tile, at an element placed in the flat rows. -/
theorem h_at (c : Dev nD) (t : Fin cfg0.N) (y : S512x2048.Idx) (i : S8192x2048.Idx) (h0 : i 0 = flatRow t (y 0)) (h1 : i 1 = y 1) :
    hAt m c t y = Cert.SguRefIdeal.Read.val_main_v65 (F := Ideal) (m ((c : Thread nD τ).loc main_arg0))
      (m ((c : Thread nD τ).loc main_arg1)) i := by
  rw [Cert.SguRefIdeal.Value.normed_out]
  unfold hAt
  rw [normTile_apply]
  have hx : (fun l => iblk m c 0 t (ix2 (y 0) l)) = _ := funext fun l => x_at m c t (y 0) l
  have hg : (fun l => iblk m c 1 t (ix2 0 l)) = _ := funext fun l => g_at m c t l
  rw [h0, h1]
  exact congrFun (congr (congrArg rmsRow hx) hg) _

/-- The gate of a tile, at an element placed in the flat rows. -/
theorem gate_at (c : Dev nD) (t u : Fin cfg0.N) (y : S512x1024.Idx) (i : S8192x1024.Idx) (h0 : i 0 = flatRow t (y 0)) (h1 : i 1 = y 1) :
    gateTile (zAt m c t) (iblk m c 3 u) (iblk m c 4 u) (iblk m c 5 u) (iblk m c 6 u) y
      = Cert.SguRefIdeal.Read.val_main_v63 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) i := by
  have y0 : (y 0).val < 512 := (y 0).isLt
  have e0 : (i 0).val = 512 * min t.val 15 + (y 0).val := congrArg Fin.val h0
  have ep : inMix (i 0) = inHead y 0 := Fin.ext (by show (i 0).val % 2048 % 128 = (y 0).val % 128; omega)
  have eh : headCol (i 1) = headOf y := by rw [h1]; rfl
  rw [Cert.SguRefIdeal.Value.gated, gateTile_apply, ep, eh, h1]
  have hz : (fun p k => zAt m c t (ix2 (tileRow (y 0) p) k)) = (fun p k => projRow
      (fun l => m ((c : Thread nD τ).loc main_arg0) (ix3 (batchOf (i 0)) (mixRow (i 0) p) l))
      (fun l => m ((c : Thread nD τ).loc main_arg1) (ix2 0 l))
      (fun l => m ((c : Thread nD τ).loc main_arg2) (ix3 0 l ⟨2048 + k.val, by omega⟩))) := funext fun p => funext fun k => by
    have hp := p.isLt
    have eb : batchOf (flatRow t (tileRow (y 0) p)) = batchOf (i 0) := Fin.ext (by
      show (512 * min t.val 15 + (128 * ((y 0).val / 128) + p.val)) / 2048 = (i 0).val / 2048; omega)
    have em : placeOf (flatRow t (tileRow (y 0) p)) = mixRow (i 0) p := Fin.ext (by
      show (512 * min t.val 15 + (128 * ((y 0).val / 128) + p.val)) % 2048 = (i 0).val % 2048 / 128 * 128 + p.val; omega)
    rw [z_at, eb, em]
  have hl : (fun e => iblk m c 3 u (ix2 0 e)) = _ := funext fun e => l_at m c u e
  have hb : (fun e => iblk m c 4 u (ix2 0 e)) = _ := funext fun e => b_at m c u e
  have hs : (fun k => iblk m c 5 u (ix3 (headOf y) (inHead y 0) k)) = _ := funext fun k => s_at m c u _ _ k
  have hd : iblk m c 6 u (ix2 (inHead y 0) (headOf y)) = _ := d_at m c u _ _
  exact congrFun (congrFun (congr (congr (congr (congr (congrArg gate hz) hl) hb) hs) hd) _) _

/-! ## The result arrays -/

/-- The gated rows' array holds the reference's first result, -/
theorem out_gate (c : Dev nD) : (dats m 0 c).arrAt 7 cfg0.N
    = Cert.SguRefIdeal.Read.val_main_v63 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t hf y => ?_
  have ht : t.val ≠ 0 := of_decide_eq_true ((flush7 t).symm.trans hf)
  have ht17 := lt17 t
  refine gate_at m c (prev t) t y _ (Fin.ext ?_) (Fin.ext ?_)
  · show _ = 512 * min (t.val - 1) 15 + (y 0).val
    blk_simp [idx7 t]
    omega
  · blk_simp [idx7 t]

/-- and the normalised rows' array its second. -/
theorem out_norm (c : Dev nD) : (dats m 0 c).arrAt 8 cfg0.N
    = Cert.SguRefIdeal.Read.val_main_v65 (F := Ideal) (m ((c : Thread nD τ).loc main_arg0)) (m ((c : Thread nD τ).loc main_arg1)) := by
  refine (dats m 0 c).arrAt_eq_of_covers 8 _ (by decide +kernel) fun t hf y => ?_
  have ht17 := lt17 t
  refine h_at m c (tileOf t) y _ (Fin.ext ?_) (Fin.ext ?_)
  · show _ = 512 * min (min t.val 15) 15 + (y 0).val
    blk_simp [idx8 t]
    omega
  · blk_simp [idx8 t]

end Cert.SguIdeal.Value

end
-- ==== Proof.Sgu.Claims.lean ====
/- The claims on the gating branch: both programs end with their semaphores at zero and their arguments as they were,
   the reference too, and over the extended reals the kernel's two results are the reference's. -/
module

public import proofs.«01_k».proof.Defs
public import proofs.«01_k».proof.Proof.Gen.Sgu
public import proofs.«01_k».proof.Proof.Gen.SguIdeal
public import proofs.«01_k».proof.Proof.Gen.SguRefIdeal
public import proofs.«01_k».proof.Proof.Gen.SguRefIdeal.Run
public import proofs.«01_k».proof.Proof.Gen.SguRefIdeal.Read
public import proofs.«01_k».proof.Proof.Sgu.Arrays
public import Idealize.ShloMosaic.Adequacy
public import Idealize.ShloMosaic.Init

@[expose] public section

noncomputable section

namespace Cert.Proof

open Idealize.ShloMosaic Idealize.ShloMosaic.Tactic Idealize.SL.Sem

/-- The kernel's frame: its text is the one run over any floats. -/
theorem frame_sgu : Cert.quiescent_Sgu (hSgu := Cert.Sgu.Gen.facts) := fun m ρ _ =>
  Eq.mp (by sl_kernel_rfl) (Cert.SguIdeal.Value.frame (F := Bits) m ρ)

/-- The same run over the extended reals. -/
theorem frame_sgu_ideal : Cert.quiescent_SguIdeal (hSguIdeal := Cert.SguIdeal.Gen.facts) := fun m ρ _ =>
  Cert.SguIdeal.Value.frame (F := Ideal) m ρ

/-- The reference's frame. -/
theorem frame_sgu_ref : Cert.quiescent_SguRefIdeal (hSguRefIdeal := Cert.SguRefIdeal.Gen.facts) := fun m ρ _ =>
  (θ_run Cert.SguRefIdeal.defs _ _).mono
    (fun r h => ⟨fun c => (h c).2.2, Idealize.ShloMosaic.sem_eq_zero_of_no_sems (by decide) r.2⟩)
    (Cert.SguRefIdeal.Value.run (F := Ideal) m ρ)

/-- The kernel's results after its run. -/
theorem run_sgu (m : (ℓ : Loc Cert.SguIdeal.nD Cert.SguIdeal.τ Cert.SguIdeal.sig) → Buf (Elt Ideal) ℓ)
    (ρ : Dev Cert.SguIdeal.nD → PrngReg) :
    θ_run (Cert.SguIdeal.defs (F := Ideal)) (onTc (τ := Cert.SguIdeal.τ) (Cert.SguIdeal.main (F := Ideal))) ⟨m, fun _ => 0, ρ⟩
      (fun r => ∀ c : Dev Cert.SguIdeal.nD,
        r.2.mem ((c.tc : Thread Cert.SguIdeal.nD Cert.SguIdeal.τ).loc Cert.SguIdeal.main_v11_0)
          = (Cert.SguIdeal.Value.dats m 0 c).arrAt 7 Cert.SguIdeal.cfg0.N
        ∧ r.2.mem ((c.tc : Thread Cert.SguIdeal.nD Cert.SguIdeal.τ).loc Cert.SguIdeal.main_v11_1)
          = (Cert.SguIdeal.Value.dats m 0 c).arrAt 8 Cert.SguIdeal.cfg0.N) :=
  (θ_run Cert.SguIdeal.defs _ _).mono (fun _ h c => ⟨(h c).1 7, (h c).1 8⟩) (Cert.SguIdeal.Value.run_main m ρ)

/-- The gated rows and the normalised rows are the reference's. -/
theorem algebraic_sgu : Cert.algebraic_SguIdeal_SguRefIdeal (hSguIdeal := Cert.SguIdeal.Gen.facts)
    (hSguRefIdeal := Cert.SguRefIdeal.Gen.facts) := by
  intro m ρ m' ρ' _ hargs
  refine ⟨_, _, (θ_run Cert.SguIdeal.defs _ _).mono (fun _ (h : _ ∧ _) c =>
      ⟨(h.1 c).1, (h.1 c).2, h.2.1 c⟩) (θ_run_and (run_sgu m ρ) (Cert.SguIdeal.Value.frame m ρ)),
    (θ_run Cert.SguRefIdeal.defs _ _).mono (fun _ h c => ⟨?_, ?_, (h c).2.2⟩) (Cert.SguRefIdeal.Value.run (F := Ideal) m' ρ')⟩
  · obtain ⟨h0, h1, h2, h3, h4, h5, h6⟩ := hargs c
    rw [(h c).1, Cert.SguRefIdeal.Read.val_main_v63_eq, h0, h1, h2, h3, h4, h5, h6]
    exact (Cert.SguIdeal.Value.out_gate m c).symm
  · obtain ⟨h0, h1, h2, h3, h4, h5, h6⟩ := hargs c
    rw [(h c).2.1, Cert.SguRefIdeal.Read.val_main_v65_eq, h0, h1]
    exact (Cert.SguIdeal.Value.out_norm m c).symm

end Cert.Proof

end
-- ==== Proof.Common.Whole.lean ====
/- A buffer written as a whole, read back. Stated over any floats and any memories. -/
module

public import Idealize.ShloMosaic.Lib.VecWindow
public import Idealize.ShloMosaic.Lib.WritesUnit

@[expose] public section

set_option maxRecDepth 16384

noncomputable section

namespace Cert.Whole

open Idealize.ShloMosaic Idealize.ShloMosaic.TcCoe

variable {F : FTy → Type} [FloatOps F] {sig : RefSig}

/-- The whole of `x`, as a load from the origin reads it. -/
def whole {s : Shape} {α : Type} (x : s.Idx → α) (off : Fin s.rank → ℕ) (inb : ∀ a, off a + s.size a ≤ s.size a) : s.Idx → α :=
  VecWindow.window x off s.size inb

theorem whole_eq {s : Shape} {α : Type} (x : s.Idx → α) (off : Fin s.rank → ℕ) (inb : ∀ a, off a + s.size a ≤ s.size a) :
    whole x off inb = x := funext fun y => congrArg x (funext fun a => Fin.ext (by
  have h := inb a
  show off a + 1 * (y a).val = (y a).val
  omega))

/-- A buffer last written as a whole reads what was written. -/
theorem read_whole {κ : Kind} {sp : Space} {s : Shape} {e : EltTy} (v : View sig κ sp s e) (f : v.ty.Contents (Elt F))
    {off : Fin s.rank → ℕ} (inb : ∀ a, off a + s.size a ≤ s.size a) (w : Vec F s e) (L : List (View.Piece (Elt F) s e)) :
    v.read (Elt F) (v.writes (Elt F) f ((⟨Rect.unit (s := s) off s.size inb, w⟩ : View.Piece (Elt F) s e) :: L)) = w :=
  funext fun y => View.read_writes_cons_unit_of_mem v f (off' := off) inb w L y y rfl fun a => by
    have h := inb a
    show (y a).val = off a + (y a).val
    omega

/-- A load of a whole buffer reads its contents. -/
theorem readAt_whole {κ : Kind} {sp : Space} {s : Shape} {e : EltTy} (v : View sig κ sp s e) (f : v.ty.Contents (Elt F))
    {off : Fin s.rank → ℕ} (inb : ∀ a, off a + s.size a ≤ s.size a) :
    v.readAt (Elt F) (Rect.unit (s := s) off s.size inb).toLoadRect f = v.read (Elt F) f :=
  whole_eq (v.read (Elt F) f) off inb

/-- A load of a whole buffer last written as a whole reads what was written. -/
theorem readCov_whole {κ : Kind} {sp : Space} {s : Shape} {e : EltTy} (v : View sig κ sp s e)
    {off off' : Fin s.rank → ℕ} (inb : ∀ a, off a + s.size a ≤ s.size a) (inb' : ∀ a, off' a + s.size a ≤ s.size a) (w : Vec F s e)
    (L : List (View.Piece (Elt F) s e)) :
    v.readCov ((⟨Rect.unit (s := s) off s.size inb, w⟩ : View.Piece (Elt F) s e) :: L) (Rect.unit (s := s) off' s.size inb').toLoadRect = w :=
  (readAt_whole v _ inb').trans (read_whole v _ inb w L)

end Cert.Whole

end
-- ==== Proof.Ffn.Block.lean ====
/- What the feed-forward kernel's stores write, as functions of what its loads read. Stated over any floats. -/
module

public import proofs.«01_k».proof.Proof.Gen.FfnIdeal.Frame
public import proofs.«01_k».proof.Proof.Gen.FfnIdeal.Skeleton
public import proofs.«01_k».proof.Proof.Common.Whole

@[expose] public section

set_option maxRecDepth 16384

noncomputable section

namespace Cert.FfnIdeal.Value

open Idealize.ShloMosaic Idealize.ShloMosaic.TcCoe Idealize.ShloMosaic.Tactic
open Cert.FfnIdeal.Gen

variable {F : FTy → Type} [FloatOps F]

/-- A tile's normalised rows, rounded to bf16. -/
def normRows (x : Vec F S1024x2048 .f32) (g : Vec F S1x2048 .f32) : FVec F S1024x2048 .bf16 := k0_pay4 x g

/-- The tile plus what the first 512 hidden features contribute to it. -/
def firstSum (x : Vec F S1024x2048 .f32) (g : Vec F S1x2048 .f32) (wg wu : Vec F S1x2048x512 .f32) (wd : Vec F S1x512x2048 .f32) :
    FVec F S1024x2048 .f32 :=
  k0_pay1 x (k0_pay6 wg wu (normRows x g)) (k0_pay7 wg wu (normRows x g)) wd

theorem firstSum_of {x x' : Vec F S1024x2048 .f32} {g : Vec F S1x2048 .f32} {h : Vec F S1024x2048 .bf16} {wg wg' wu wu' : Vec F S1x2048x512 .f32}
    {wd wd' : Vec F S1x512x2048 .f32} (hx : x' = x) (hh : h = normRows x g) (hwg : wg' = wg) (hwu : wu' = wu) (hwd : wd' = wd) :
    k0_pay1 x' (k0_pay6 wg' wu' h) (k0_pay7 wg' wu' h) wd' = firstSum x g wg wu wd := by
  subst hx hh hwg hwu hwd; rfl

/-- A partial sum plus what 512 further hidden features contribute. -/
def nextSum (o : Vec F S1024x2048 .f32) (h : Vec F S1024x2048 .bf16) (wg wu : Vec F S1x2048x512 .f32) (wd : Vec F S1x512x2048 .f32) :
    FVec F S1024x2048 .f32 :=
  k0_pay2 o wg wu h wd

theorem nextSum_of {o o' : Vec F S1024x2048 .f32} {h h' : Vec F S1024x2048 .bf16} {wg wg' wu wu' : Vec F S1x2048x512 .f32}
    {wd wd' : Vec F S1x512x2048 .f32} (ho : o' = o) (hwg : wg' = wg) (hwu : wu' = wu) (hh : h' = h) (hwd : wd' = wd) :
    k0_pay2 o' wg' wu' h' wd' = nextSum o h wg wu wd := by
  subst ho hh hwg hwu hwd; rfl

/-- The sum's rows normalised. -/
def lastNorm (o : Vec F S1024x2048 .f32) (g : Vec F S1x2048 .f32) : FVec F S1024x2048 .f32 := k0_pay3 o g

theorem lastNorm_of {o o' : Vec F S1024x2048 .f32} {g g' : Vec F S1x2048 .f32} (ho : o' = o) (hg : g' = g) :
    k0_pay3 o' g' = lastNorm o g := by
  subst ho hg; rfl

end Cert.FfnIdeal.Value

end
-- ==== Proof.Ffn.Body.lean ====
/- The body at a point of the grid, by what it does there: begin a tile (waiting for its transfer, which at the first
   point it also starts), add a further partial sum, add one while starting the next tile's transfer, end a tile. -/
module

public import proofs.«01_k».proof.Proof.Ffn.Block

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen
open Cert.Whole

variable {F : FTy → Type} [FloatOps F]

local notation "𝕄" => MT nD τ sig Unit (Elt F) ℕ (Pipeline.UD sig nD τ) ℕ

/-- The activations left in HBM, the buffer of normalised rows, the buffer a tile is fetched into. -/
abbrev hbX : Memref sig .tc .hbm S8192x2048 .f32 := Memref.whole main_v0
abbrev bufH : Memref sig .tc .vmem S1024x2048 .bf16 := Memref.whole cc0_scratch0
abbrev bufX : Memref sig .tc .vmem S1024x2048 .f32 := Memref.whole cc0_scratch1
/-- The transfers' semaphore. -/
abbrev semX : SemLoc sig := .dma cc0_scratch2.sem

/-- 1024 rows of the activations, from `off`. -/
abbrev rowsX (off : Fin 2 → ℕ) (inb : ∀ a, off a + S1024x2048.size a ≤ S8192x2048.size a) : Memref sig .tc .hbm S1024x2048 .f32 :=
  hbX.slice (Rect.unit (s := S8192x2048) off S1024x2048.size inb) (fun _ => rfl)

/-- The tile `x` on its way: a transfer that fills the buffer with it, and the activations' other rows. -/
def coming (c : Dev nD) (fx : Buf (Elt F) (hbX.view.loc (c : Thread nD τ))) (x : Vec F S1024x2048 .f32) : sProp 𝕄 :=
  iprop(∃ off, ∃ inb, ∃ g, ⌜bufX.view.read (Elt F) g = x⌝
    ∗ Transfers.Flight (countersEmb (U := Pipeline.UD sig nD τ)) (c : Thread nD τ) (SemLoc.dma (sig := sig) cc0_scratch2.sem) () 262144
        iprop((bufX.view.loc (c : Thread nD τ) ↦[bufX.view.set]{fullShare} g)
          ∗ (hbX.view.loc (c : Thread nD τ) ↦[(rowsX off inb).view.set]{fullShare} fx))
    ∗ (hbX.view.loc (c : Thread nD τ) ↦[Finset.univ \ (rowsX off inb).view.set]{fullShare} fx))

set_option maxHeartbeats 4000000 in
/-- A point between: one further partial sum. -/
theorem run_next (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (hc1 : ¬k0_cond1 i = 1#1) (hc2 : ¬k0_cond2 i = 1#1) (hc3 : ¬k0_cond3 i = 1#1) (hc4 : k0_cond4 i = 1#1) (hc5 : ¬k0_cond5 i = 1#1)
    (wg wu : Vec F S1x2048x512 .f32) (wd : Vec F S1x512x2048 .f32) (o : Vec F S1024x2048 .f32) (h : Vec F S1024x2048 .bf16)
    (K : PUnit → sProp 𝕄) :
    iprop(owns (c : Thread nD τ) arg4 fullShare wg ∗ owns (c : Thread nD τ) arg5 fullShare wu ∗ owns (c : Thread nD τ) arg6 fullShare wd
        ∗ owns (c : Thread nD τ) arg8 fullShare o ∗ owns (c : Thread nD τ) bufH fullShare h
        ∗ (iprop(owns (c : Thread nD τ) arg4 fullShare wg ∗ owns (c : Thread nD τ) arg5 fullShare wu ∗ owns (c : Thread nD τ) arg6 fullShare wd
            ∗ owns (c : Thread nD τ) arg8 fullShare (nextSum o h wg wu wd) ∗ owns (c : Thread nD τ) bufH fullShare h) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 bufH (Memref.isWhole_whole _) bufX (Memref.isWhole_whole _) cc0_scratch2) K := by
  rw [cc0_ffn_eq_skeleton]; unfold cc0_ffn_skel
  unfold owns
  iintro ⟨⟨%f4, %hf4, H4⟩, ⟨%f5, %hf5, H5⟩, ⟨%f6, %hf6, H6⟩, ⟨%f8, %hf8, H8⟩, ⟨%f9, %hf9, H9⟩, Hk⟩
  subst hf4 hf5 hf6 hf8 hf9
  sl_exec (disch := first | sl_exact hc1 | sl_exact hc2 | sl_exact hc3 | sl_exact hc4 | sl_exact hc5)
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (nextSum_of (readAt_whole _ _ _) (readAt_whole _ _ _) (readAt_whole _ _ _) (readAt_whole _ _ _) (readAt_whole _ _ _))
  · iexists _; isplitr; swap; · iexact H9
    ipureintro; rfl

set_option maxHeartbeats 4000000 in
/-- The second point of a tile that is not the last: the next tile's transfer starts, and one further partial sum. -/
theorem run_start (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (hc1 : ¬k0_cond1 i = 1#1) (hc2 : ¬k0_cond2 i = 1#1) (hc3 : k0_cond3 i = 1#1) (hc4 : k0_cond4 i = 1#1) (hc5 : ¬k0_cond5 i = 1#1)
    (wg wu : Vec F S1x2048x512 .f32) (wd : Vec F S1x512x2048 .f32) (o : Vec F S1024x2048 .f32) (h : Vec F S1024x2048 .bf16)
    (fx : Buf (Elt F) (hbX.view.loc (c : Thread nD τ)))
    (K : PUnit → sProp 𝕄) :
    iprop(owns (c : Thread nD τ) arg4 fullShare wg ∗ owns (c : Thread nD τ) arg5 fullShare wu ∗ owns (c : Thread nD τ) arg6 fullShare wd
        ∗ owns (c : Thread nD τ) arg8 fullShare o ∗ owns (c : Thread nD τ) bufH fullShare h
        ∗ (∃ d, owns (c : Thread nD τ) bufX fullShare d) ∗ semVal ((c : Thread nD τ), semX) 0 ∗ (hbX.view.loc (c : Thread nD τ) ↦{fullShare} fx)
        ∗ (iprop(owns (c : Thread nD τ) arg4 fullShare wg ∗ owns (c : Thread nD τ) arg5 fullShare wu ∗ owns (c : Thread nD τ) arg6 fullShare wd
            ∗ owns (c : Thread nD τ) arg8 fullShare (nextSum o h wg wu wd) ∗ owns (c : Thread nD τ) bufH fullShare h
            ∗ coming c fx ((rowsX (k0_off2 i) (k0_off2_inb i hc3)).view.read (Elt F) fx)) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 bufH (Memref.isWhole_whole _) bufX (Memref.isWhole_whole _) cc0_scratch2) K := by
  rw [cc0_ffn_eq_skeleton]; unfold cc0_ffn_skel
  unfold owns
  iintro ⟨⟨%f4, %hf4, H4⟩, ⟨%f5, %hf5, H5⟩, ⟨%f6, %hf6, H6⟩, ⟨%f8, %hf8, H8⟩, ⟨%f9, %hf9, H9⟩, ⟨%d10, %f10, -, H10⟩, Hs, Hx, Hk⟩
  subst hf4 hf5 hf6 hf8 hf9
  sl_exec (disch := first | sl_exact hc1 | sl_exact hc2 | sl_exact hc3 | sl_exact hc4 | sl_exact hc5)
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (nextSum_of (readAt_whole _ _ _) (readAt_whole _ _ _) (readAt_whole _ _ _) (readAt_whole _ _ _) (readAt_whole _ _ _))
  isplitl [H9]
  · iexists _; isplitr; swap; · iexact H9
    ipureintro; rfl
  unfold coming
  iexists _, _, _
  isplitr
  swap
  · isplitl [Hs]
    · iexact Hs
    · iexact Hx
  ipureintro
  exact read_whole bufX.view _ _ _ _

set_option maxHeartbeats 4000000 in
/-- The first point of all: the first tile's transfer starts and is waited for, and its first partial sum is stored. -/
theorem run_first (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (hc1 : k0_cond1 i = 1#1) (hc2 : k0_cond2 i = 1#1) (hc3 : ¬k0_cond3 i = 1#1) (hc4 : ¬k0_cond4 i = 1#1) (hc5 : ¬k0_cond5 i = 1#1)
    (ng : Vec F S1x2048 .f32) (wg wu : Vec F S1x2048x512 .f32) (wd : Vec F S1x512x2048 .f32)
    (fx : Buf (Elt F) (hbX.view.loc (c : Thread nD τ))) (W : Waits sig Unit) (K : PUnit → sProp 𝕄) :
    iprop(owns (c : Thread nD τ) arg3 fullShare ng ∗ owns (c : Thread nD τ) arg4 fullShare wg ∗ owns (c : Thread nD τ) arg5 fullShare wu ∗ owns (c : Thread nD τ) arg6 fullShare wd
        ∗ (∃ d, owns (c : Thread nD τ) arg8 fullShare d) ∗ (∃ d, owns (c : Thread nD τ) bufH fullShare d)
        ∗ (∃ d, owns (c : Thread nD τ) bufX fullShare d) ∗ semVal ((c : Thread nD τ), semX) 0 ∗ (hbX.view.loc (c : Thread nD τ) ↦{fullShare} fx) ∗ owes (c : Thread nD τ) 0 W
        ∗ (iprop(owns (c : Thread nD τ) arg3 fullShare ng ∗ owns (c : Thread nD τ) arg4 fullShare wg ∗ owns (c : Thread nD τ) arg5 fullShare wu ∗ owns (c : Thread nD τ) arg6 fullShare wd
            ∗ owns (c : Thread nD τ) arg8 fullShare (firstSum ((rowsX ![0, 0] inb_S8192x2048_S1024x2048_0_0).view.read (Elt F) fx) ng wg wu wd) ∗ owns (c : Thread nD τ) bufH fullShare (normRows ((rowsX ![0, 0] inb_S8192x2048_S1024x2048_0_0).view.read (Elt F) fx) ng)
            ∗ (∃ d, owns (c : Thread nD τ) bufX fullShare d) ∗ semVal ((c : Thread nD τ), semX) 0 ∗ (hbX.view.loc (c : Thread nD τ) ↦{fullShare} fx)
            ∗ ∃ W, owes (c : Thread nD τ) 0 W) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 bufH (Memref.isWhole_whole _) bufX (Memref.isWhole_whole _) cc0_scratch2) K := by
  rw [cc0_ffn_eq_skeleton]; unfold cc0_ffn_skel
  rw [k0_part1_eq_skeleton]; unfold k0_part1_skel
  unfold owns
  iintro ⟨⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, Hs, Hx, Ho, Hk⟩
  subst hf3 hf4 hf5 hf6
  sl_exec (disch := first | sl_exact hc1 | sl_exact hc2 | sl_exact hc3 | sl_exact hc4 | sl_exact hc5)
  sl_step
  have ex : run_first.sl.v23 c fx = (rowsX ![0, 0] inb_S8192x2048_S1024x2048_0_0).view.read (Elt F) fx :=
    readCov_whole bufX.view _ _ _ _
  have eh : k0_pay4 (run_first.sl.v23 c fx) (arg3.view.readAt (Elt F) (Rect.unit ![0, 0] S1x2048.size inb_S1x2048_S1x2048_0_0).toLoadRect f3)
      = normRows ((rowsX ![0, 0] inb_S8192x2048_S1024x2048_0_0).view.read (Elt F) fx) (arg3.view.read (Elt F) f3) :=
    congr (congrArg k0_pay4 ex) (readAt_whole _ _ _)
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (firstSum_of ex ((readCov_whole bufH.view _ _ _ _).trans eh) (readAt_whole _ _ _) (readAt_whole _ _ _) (readAt_whole _ _ _))
  isplitl [H9]
  · iexists _; isplitr; swap; · iexact H9
    ipureintro
    exact (read_whole bufH.view _ _ _ _).trans eh
  isplitl [H10]
  · iexists _, _; isplitr; swap; · iexact H10
    ipureintro; rfl
  isplitl [Hs]; · iexact Hs
  isplitl [Hx]; · iexact Hx
  iexists _; iexact Ho

set_option maxHeartbeats 4000000 in
/-- The first point of a later tile: its transfer is waited for, and its first partial sum is stored. -/
theorem run_begin (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (hc1 : ¬k0_cond1 i = 1#1) (hc2 : k0_cond2 i = 1#1) (hc3 : ¬k0_cond3 i = 1#1) (hc4 : ¬k0_cond4 i = 1#1) (hc5 : ¬k0_cond5 i = 1#1)
    (ng : Vec F S1x2048 .f32) (wg wu : Vec F S1x2048x512 .f32) (wd : Vec F S1x512x2048 .f32)
    (fx : Buf (Elt F) (hbX.view.loc (c : Thread nD τ))) (x : Vec F S1024x2048 .f32) (W : Waits sig Unit) (K : PUnit → sProp 𝕄) :
    iprop(owns (c : Thread nD τ) arg3 fullShare ng ∗ owns (c : Thread nD τ) arg4 fullShare wg ∗ owns (c : Thread nD τ) arg5 fullShare wu ∗ owns (c : Thread nD τ) arg6 fullShare wd
        ∗ (∃ d, owns (c : Thread nD τ) arg8 fullShare d) ∗ (∃ d, owns (c : Thread nD τ) bufH fullShare d)
        ∗ coming c fx x ∗ owes (c : Thread nD τ) 0 W
        ∗ (iprop(owns (c : Thread nD τ) arg3 fullShare ng ∗ owns (c : Thread nD τ) arg4 fullShare wg ∗ owns (c : Thread nD τ) arg5 fullShare wu ∗ owns (c : Thread nD τ) arg6 fullShare wd
            ∗ owns (c : Thread nD τ) arg8 fullShare (firstSum x ng wg wu wd) ∗ owns (c : Thread nD τ) bufH fullShare (normRows x ng)
            ∗ (∃ d, owns (c : Thread nD τ) bufX fullShare d) ∗ semVal ((c : Thread nD τ), semX) 0 ∗ (hbX.view.loc (c : Thread nD τ) ↦{fullShare} fx)
            ∗ ∃ W, owes (c : Thread nD τ) 0 W) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 bufH (Memref.isWhole_whole _) bufX (Memref.isWhole_whole _) cc0_scratch2) K := by
  rw [cc0_ffn_eq_skeleton]; unfold cc0_ffn_skel
  rw [k0_part1_eq_skeleton]; unfold k0_part1_skel
  unfold owns coming
  iintro ⟨⟨%f3, %hf3, H3⟩, ⟨%f4, %hf4, H4⟩, ⟨%f5, %hf5, H5⟩, ⟨%f6, %hf6, H6⟩, ⟨%d8, %f8, -, H8⟩, ⟨%d9, %f9, -, H9⟩, ⟨%off, %inb, %g, %hg, Hs, Hx⟩, Ho, Hk⟩
  subst hf3 hf4 hf5 hf6 hg
  sl_exec (disch := first | sl_exact hc1 | sl_exact hc2 | sl_exact hc3 | sl_exact hc4 | sl_exact hc5)
  sl_step
  have ex : bufX.view.readAt (Elt F) (Rect.unit ![0, 0] S1024x2048.size inb_S1024x2048_S1024x2048_0_0).toLoadRect g = bufX.view.read (Elt F) g :=
    readAt_whole bufX.view _ _
  have eh : k0_pay4 (bufX.view.readAt (Elt F) (Rect.unit ![0, 0] S1024x2048.size inb_S1024x2048_S1024x2048_0_0).toLoadRect g) (arg3.view.readAt (Elt F) (Rect.unit ![0, 0] S1x2048.size inb_S1x2048_S1x2048_0_0).toLoadRect f3)
      = normRows (bufX.view.read (Elt F) g) (arg3.view.read (Elt F) f3) :=
    congr (congrArg k0_pay4 ex) (readAt_whole _ _ _)
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (firstSum_of ex ((readCov_whole bufH.view _ _ _ _).trans eh) (readAt_whole _ _ _) (readAt_whole _ _ _) (readAt_whole _ _ _))
  isplitl [H9]
  · iexists _; isplitr; swap; · iexact H9
    ipureintro
    exact (read_whole bufH.view _ _ _ _).trans eh
  isplitl [Hs_dst]
  · iexists _, _; isplitr; swap; · iexact Hs_dst
    ipureintro; rfl
  isplitl [Hs]; · iexact Hs
  isplitl [Hx]; · iexact Hx
  iexists _; iexact Ho

set_option maxHeartbeats 4000000 in
/-- The last point of a tile: the last partial sum, and its rows normalised. -/
theorem run_last (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (hc1 : ¬k0_cond1 i = 1#1) (hc2 : ¬k0_cond2 i = 1#1) (hc3 : ¬k0_cond3 i = 1#1) (hc4 : k0_cond4 i = 1#1) (hc5 : k0_cond5 i = 1#1)
    (ng : Vec F S1x2048 .f32) (wg wu : Vec F S1x2048x512 .f32) (wd : Vec F S1x512x2048 .f32) (o : Vec F S1024x2048 .f32) (h : Vec F S1024x2048 .bf16)
    (K : PUnit → sProp 𝕄) :
    iprop(owns (c : Thread nD τ) arg4 fullShare wg ∗ owns (c : Thread nD τ) arg5 fullShare wu ∗ owns (c : Thread nD τ) arg6 fullShare wd
        ∗ owns (c : Thread nD τ) arg7 fullShare ng ∗ owns (c : Thread nD τ) arg8 fullShare o ∗ owns (c : Thread nD τ) bufH fullShare h
        ∗ (iprop(owns (c : Thread nD τ) arg4 fullShare wg ∗ owns (c : Thread nD τ) arg5 fullShare wu ∗ owns (c : Thread nD τ) arg6 fullShare wd
            ∗ owns (c : Thread nD τ) arg7 fullShare ng ∗ owns (c : Thread nD τ) arg8 fullShare (lastNorm (nextSum o h wg wu wd) ng) ∗ owns (c : Thread nD τ) bufH fullShare h) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 bufH (Memref.isWhole_whole _) bufX (Memref.isWhole_whole _) cc0_scratch2) K := by
  rw [cc0_ffn_eq_skeleton]; unfold cc0_ffn_skel
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf4 hf5 hf6 hf7 hf8 hf9
  sl_exec (disch := first | sl_exact hc1 | sl_exact hc2 | sl_exact hc3 | sl_exact hc4 | sl_exact hc5)
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro
    exact (read_whole _ _ _ _ _).trans (lastNorm_of ((readCov_whole arg8.view _ _ _ _).trans
      (nextSum_of (readAt_whole _ _ _) (readAt_whole _ _ _) (readAt_whole _ _ _) (readAt_whole _ _ _) (readAt_whole _ _ _))) (readAt_whole _ _ _))
  · iexists _; isplitr; swap; · iexact H9
    ipureintro; rfl

end Cert.FfnIdeal.Value

end
-- ==== Proof.Ffn.Frame.lean ====
/- The run of the feed-forward kernel: its body at every point of the grid, with what the scratch buffers and the
   transfer in flight carry from one point to the next, and what its result array holds in the end. Stated over any
   floats. -/
module

public import proofs.«01_k».proof.Proof.Ffn.Body
public import Idealize.ShloMosaic.Lib.Claim

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points -/

theorem lt88 (t : Fin cfg0.N) : t.val < 88 := Nat.lt_of_lt_of_eq t.isLt N_0

/-- The first transfer starts at the first point, -/
theorem at_first : ∀ t : Fin cfg0.N, k0_cond1 (grid0.coords t) = 1#1 ↔ t.val = 0 :=
  (by decide +kernel : ∀ t : Fin grid0.N, k0_cond1 (grid0.coords t) = 1#1 ↔ t.val = 0)
/-- a tile begins every eleven points, -/
theorem at_begin : ∀ t : Fin cfg0.N, k0_cond2 (grid0.coords t) = 1#1 ↔ t.val % 11 = 0 :=
  (by decide +kernel : ∀ t : Fin grid0.N, k0_cond2 (grid0.coords t) = 1#1 ↔ t.val % 11 = 0)
/-- its successor's transfer starts at the point after, -/
theorem at_start : ∀ t : Fin cfg0.N, k0_cond3 (grid0.coords t) = 1#1 ↔ (t.val % 11 = 1 ∧ t.val < 77) :=
  (by decide +kernel : ∀ t : Fin grid0.N, k0_cond3 (grid0.coords t) = 1#1 ↔ (t.val % 11 = 1 ∧ t.val < 77))
/-- every other point adds to the sum, -/
theorem at_next : ∀ t : Fin cfg0.N, k0_cond4 (grid0.coords t) = 1#1 ↔ t.val % 11 ≠ 0 :=
  (by decide +kernel : ∀ t : Fin grid0.N, k0_cond4 (grid0.coords t) = 1#1 ↔ t.val % 11 ≠ 0)
/-- and the last of the eleven normalises it. -/
theorem at_last : ∀ t : Fin cfg0.N, k0_cond5 (grid0.coords t) = 1#1 ↔ t.val % 11 = 10 :=
  (by decide +kernel : ∀ t : Fin grid0.N, k0_cond5 (grid0.coords t) = 1#1 ↔ t.val % 11 = 10)

/-- The rows the transfer of the next tile reads. -/
theorem off_start : ∀ t : Fin cfg0.N, t.val < 77 → k0_off2 (grid0.coords t) = ![1024 * min (t.val / 11 + 1) 7, 0] :=
  (by decide +kernel : ∀ t : Fin grid0.N, t.val < 77 → k0_off2 (grid0.coords t) = ![1024 * min (t.val / 11 + 1) 7, 0])

/-- The result is stored at every point, -/
theorem idle5 : ∀ t : Fin cfg0.N, cfg0.idle 5 (grid0.coords t) = false :=
  (by decide +kernel : ∀ t : Fin grid0.N, idle0 5 (grid0.coords t) = false)
/-- and written back at the last of a tile's. -/
theorem flush5 : ∀ t : Fin cfg0.N, (cfg0.win 5).flush t = decide (t.val % 11 = 10) :=
  (by decide +kernel : ∀ t : Fin grid0.N, win0_5.flush t = decide (t.val % 11 = 10))

/-- The point before, -/
def prev (t : Fin cfg0.N) : Fin cfg0.N := ⟨t.val - 1, Nat.lt_of_le_of_lt (Nat.sub_le _ _) t.isLt⟩
/-- and the point at which the tile `k` begins. -/
def begins (k : ℕ) : Fin cfg0.N := ⟨11 * min k 7, by rw [show cfg0.N = 88 from N_0]; omega⟩

theorem begins_eq (t : Fin cfg0.N) (h : t.val % 11 = 0) : begins (t.val / 11) = t :=
  Fin.ext (by have := lt88 t; show 11 * min (t.val / 11) 7 = t.val; omega)

/-! ## What the buffers hold -/

/-- The activations as the kernel finds them. -/
abbrev actX (c : Dev nD) : Buf (Elt F) (hbX.view.loc (c : Thread nD τ)) := V m c main_v0

theorem inb_tile (k : ℕ) : ∀ a : Fin 2, ![1024 * min k 7, 0] a + S1024x2048.size a ≤ S8192x2048.size a := fun a => by
  fin_cases a
  · show 1024 * min k 7 + 1024 ≤ 8192; omega
  · show 0 + 2048 ≤ 2048; omega

/-- The tile `k` of the activations. -/
def xT (c : Dev nD) (k : ℕ) : Vec F S1024x2048 .f32 :=
  (rowsX ![1024 * min k 7, 0] (inb_tile k)).view.read (Elt F) (actX m c)

theorem rows_eq (c : Dev nD) (k : ℕ) (off : Fin 2 → ℕ) (inb) (h : off = ![1024 * min k 7, 0]) :
    (rowsX off inb).view.read (Elt F) (actX m c) = xT m c k := by
  subst h; rfl

/-- Its normalised rows. -/
def hT (c : Dev nD) (k : ℕ) : Vec F S1024x2048 .bf16 := normRows (xT m c k) (iblk m c 0 (begins k))

/-- The partial sum after the point `n`. -/
def sumAt (c : Dev nD) : (n : ℕ) → n < cfg0.N → Vec F S1024x2048 .f32
  | 0, h => firstSum (xT m c 0) (iblk m c 0 ⟨0, h⟩) (iblk m c 1 ⟨0, h⟩) (iblk m c 2 ⟨0, h⟩) (iblk m c 3 ⟨0, h⟩)
  | n + 1, h =>
    if (n + 1) % 11 = 0 then
      firstSum (xT m c ((n + 1) / 11)) (iblk m c 0 ⟨n + 1, h⟩) (iblk m c 1 ⟨n + 1, h⟩) (iblk m c 2 ⟨n + 1, h⟩) (iblk m c 3 ⟨n + 1, h⟩)
    else
      nextSum (sumAt c n (Nat.lt_of_succ_lt h)) (hT m c ((n + 1) / 11)) (iblk m c 1 ⟨n + 1, h⟩) (iblk m c 2 ⟨n + 1, h⟩) (iblk m c 3 ⟨n + 1, h⟩)

theorem sumAt_begin (c : Dev nD) (t : Fin cfg0.N) (h : t.val % 11 = 0) :
    sumAt m c t.val t.isLt = firstSum (xT m c (t.val / 11)) (iblk m c 0 t) (iblk m c 1 t) (iblk m c 2 t) (iblk m c 3 t) := by
  obtain ⟨n, hn⟩ := t
  cases n with
  | zero => simp only [sumAt, Nat.zero_div]
  | succ n => exact if_pos h

theorem sumAt_next (c : Dev nD) (t : Fin cfg0.N) (h : t.val % 11 ≠ 0) :
    sumAt m c t.val t.isLt = nextSum (sumAt m c (prev t).val (prev t).isLt) (hT m c (t.val / 11)) (iblk m c 1 t) (iblk m c 2 t) (iblk m c 3 t) := by
  obtain ⟨n, hn⟩ := t
  cases n with
  | zero => exact absurd rfl h
  | succ n => exact if_neg h

/-- What the result's buffer holds after the point `t`. -/
def outAt (c : Dev nD) (t : Fin cfg0.N) : Vec F S1024x2048 .f32 :=
  if t.val % 11 = 10 then lastNorm (sumAt m c t.val t.isLt) (iblk m c 4 t) else sumAt m c t.val t.isLt

theorem outAt_last (c : Dev nD) (t : Fin cfg0.N) (h : t.val % 11 = 10) : outAt m c t = lastNorm (sumAt m c t.val t.isLt) (iblk m c 4 t) := if_pos h
theorem outAt_next (c : Dev nD) (t : Fin cfg0.N) (h : t.val % 11 ≠ 10) : outAt m c t = sumAt m c t.val t.isLt := if_neg h
abbrev ms0_0 (t : Fin cfg0.N) : Memref sig .tc .vmem S1x2048 .f32 := win0_0.stage (cfg0.slots t 0)
abbrev ms0_1 (t : Fin cfg0.N) : Memref sig .tc .vmem S1x2048x512 .f32 := win0_1.stage (cfg0.slots t 1)
abbrev ms0_2 (t : Fin cfg0.N) : Memref sig .tc .vmem S1x2048x512 .f32 := win0_2.stage (cfg0.slots t 2)
abbrev ms0_3 (t : Fin cfg0.N) : Memref sig .tc .vmem S1x512x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1024x2048 .f32 := win0_5.stage (cfg0.slots t 5)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)

/-! ## What is carried from point to point -/

/-- No transfer in flight: the buffer at some contents, the semaphore at zero, the activations whole. -/
def idleX (c : Dev nD) : sProp 𝕄 :=
  iprop((∃ d, owns (c : Thread nD τ) bufX fullShare d) ∗ semVal ((c : Thread nD τ), semX) 0 ∗ (hbX.view.loc (c : Thread nD τ) ↦{fullShare} actX m c))

/-- The tile in flight before the point `n`, if one is, -/
def flying (c : Dev nD) (n : ℕ) : sProp 𝕄 :=
  if n % 11 ≠ 1 ∧ n ≠ 0 ∧ n < 79 then coming c (actX m c) (xT m c ((n + 9) / 11)) else idleX m c
/-- the normalised rows, within a tile. -/
def rowsH (c : Dev nD) (n : ℕ) : sProp 𝕄 :=
  if n % 11 = 0 then iprop(∃ d, owns (c : Thread nD τ) bufH fullShare d) else owns (c : Thread nD τ) bufH fullShare (hT m c (n / 11))

theorem flying_yes (c : Dev nD) (n k : ℕ) (h : n % 11 ≠ 1 ∧ n ≠ 0 ∧ n < 79) (hk : (n + 9) / 11 = k) :
    flying m c n = coming c (actX m c) (xT m c k) := by subst hk; exact if_pos h
theorem flying_no (c : Dev nD) (n : ℕ) (h : ¬(n % 11 ≠ 1 ∧ n ≠ 0 ∧ n < 79)) : flying m c n = idleX m c := if_neg h
theorem rowsH_begin (c : Dev nD) (n : ℕ) (h : n % 11 = 0) : rowsH m c n = iprop(∃ d, owns (c : Thread nD τ) bufH fullShare d) := if_pos h
theorem rowsH_next (c : Dev nD) (n k : ℕ) (h : n % 11 ≠ 0) (hk : n / 11 = k) : rowsH m c n = owns (c : Thread nD τ) bufH fullShare (hT m c k) := by
  subst hk; exact if_neg h

/-- Within a tile the point leaves the flight as it found it, unless it starts one. -/
theorem flying_keep (c : Dev nD) (t : Fin cfg0.N) (h0 : t.val % 11 ≠ 0) (h1 : ¬(t.val % 11 = 1 ∧ t.val < 77)) :
    flying m c (t.val + 1) = flying m c t.val := by
  have := lt88 t
  by_cases h : t.val % 11 ≠ 1 ∧ t.val ≠ 0 ∧ t.val < 79
  · by_cases h2 : t.val < 77
    · rw [flying_yes m c t.val ((t.val + 9) / 11) h rfl, flying_yes m c (t.val + 1) ((t.val + 9) / 11) (by omega) (by omega)]
    · exfalso; omega
  · rw [flying_no m c _ h, flying_no m c _ (by omega)]

/-- What is carried before the point `n`. -/
def carried (c : Dev nD) (n : ℕ) : sProp 𝕄 := iprop(rowsH m c n ∗ flying m c n ∗ (∃ r, prngReg c r))

/-- The arrays as the kernel finds them, each input's block left in place, the partial sum or the normalised one in the
    result's buffer, and the scratch as `carried` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Within a tile the result's buffer holds the partial sum of the point before. -/
theorem before0_5 (c : Dev nD) (t : Fin cfg0.N) (h : t.val % 11 ≠ 0) (d) :
    (dats m 0 c).before 5 t d = sumAt m c (prev t).val (prev t).isLt := by
  have hp : (prev t).val % 11 ≠ 10 := by show (t.val - 1) % 11 ≠ 10; omega
  rw [(dats m 0 c).before_of_pos 5 t (by omega) ((cfg0.win 5).fetch_out rfl t) d]
  have e : (⟨t.val - 1, Nat.lt_of_le_of_lt (Nat.sub_le _ _) t.isLt⟩ : Fin cfg0.N) = prev t := rfl
  rw [e, flush5, decide_eq_false hp]
  show (dats m 0 c).left 5 (prev t) d = _
  unfold Dat.left
  rw [show cfg0.idle 5 (cfg0.grid.coords (prev t)) = false from idle5 (prev t)]
  show (dats m 0 c).kept 5 (prev t) d = _
  unfold Dat.kept
  rw [Pipeline.fill_of_clip_none 5 _ (fun _ => rfl) d ((dats m 0 c).after 5 _), Window.fill_cut, after0_5, outAt_next m c _ hp]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (outAt m c t) := by
  unfold Dat.leavesExact; rw [show cfg0.idle 5 (grid0.coords t) = false from idle5 t, after0_5]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = carried m c (t.val + 1) from rfl, show (dats m 0 c).Φ t.castSucc = carried m c t.val from rfl]
  rw [leaves0_0, leaves0_1, leaves0_2, leaves0_3, leaves0_4, leaves0_5]
  unfold carried
  have hN := lt88 t
  by_cases h0 : t.val % 11 = 0
  · have hc2 := (at_begin t).mpr h0
    have hc3 : ¬k0_cond3 (grid0.coords t) = 1#1 := fun h => absurd ((at_start t).mp h) (by omega)
    have hc4 : ¬k0_cond4 (grid0.coords t) = 1#1 := fun h => absurd ((at_next t).mp h) (by omega)
    have hc5 : ¬k0_cond5 (grid0.coords t) = 1#1 := fun h => absurd ((at_last t).mp h) (by omega)
    rw [outAt_next m c t (by omega), sumAt_begin m c t h0, rowsH_begin m c _ h0, rowsH_next m c (t.val + 1) (t.val / 11) (by omega) (by omega),
      flying_no m c (t.val + 1) (by omega)]
    unfold hT
    rw [begins_eq t h0]
    unfold Dat.owesAt Pipeline.owesWithin
    rw [show (dats m 0 c).owed t.castSucc = 0 from rfl]
    by_cases hz : t.val = 0
    · have hc1 := (at_first t).mpr hz
      rw [flying_no m c t.val (by omega)]
      have er : (rowsX ![0, 0] inb_S8192x2048_S1024x2048_0_0).view.read (Elt F) (actX m c) = xT m c (t.val / 11) :=
        rows_eq m c _ _ _ (by rw [hz]; rfl)
      rw [← er]
      unfold idleX
      iintro ⟨⟨HH, ⟨HX, Hs, Hx⟩, Hg⟩, ⟨%W, -, HW⟩, ⟨%d0, H0⟩, ⟨%d1, H1⟩, ⟨%d2, H2⟩, ⟨%d3, H3⟩, ⟨%d4, H4⟩, ⟨%d5, H5⟩⟩
      iapply (run_first c (grid0.coords t) _ (hs0_0 t) _ (hs0_1 t) _ (hs0_2 t) _ (hs0_3 t) _ (hs0_4 t) _ (hs0_5 t) hc1 hc2 hc3 hc4 hc5 _ _ _ _ (actX m c) W _)
      isplitl [H0]; · iexact H0
      isplitl [H1]; · iexact H1
      isplitl [H2]; · iexact H2
      isplitl [H3]; · iexact H3
      isplitl [H5]; · iexists _; iexact H5
      isplitl [HH]; · iexact HH
      isplitl [HX]; · iexact HX
      isplitl [Hs]; · iexact Hs
      isplitl [Hx]; · iexact Hx
      isplitl [HW]; · iexact HW
      iintro ⟨H0, H1, H2, H3, H5, HH, HX, Hs, Hx, ⟨%W', HW⟩⟩
      isplitl [HH HX Hs Hx Hg]
      · isplitl [HH]; · iexact HH
        isplitl [HX Hs Hx]
        · isplitl [HX]; · iexact HX
          isplitl [Hs]; · iexact Hs
          iexact Hx
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexact H5
    · have hc1 : ¬k0_cond1 (grid0.coords t) = 1#1 := fun h => absurd ((at_first t).mp h) hz
      rw [flying_yes m c t.val (t.val / 11) (by omega) (by omega)]
      unfold idleX
      iintro ⟨⟨HH, HX, Hg⟩, ⟨%W, -, HW⟩, ⟨%d0, H0⟩, ⟨%d1, H1⟩, ⟨%d2, H2⟩, ⟨%d3, H3⟩, ⟨%d4, H4⟩, ⟨%d5, H5⟩⟩
      iapply (run_begin c (grid0.coords t) _ (hs0_0 t) _ (hs0_1 t) _ (hs0_2 t) _ (hs0_3 t) _ (hs0_4 t) _ (hs0_5 t) hc1 hc2 hc3 hc4 hc5 _ _ _ _ (actX m c) _ W _)
      isplitl [H0]; · iexact H0
      isplitl [H1]; · iexact H1
      isplitl [H2]; · iexact H2
      isplitl [H3]; · iexact H3
      isplitl [H5]; · iexists _; iexact H5
      isplitl [HH]; · iexact HH
      isplitl [HX]; · iexact HX
      isplitl [HW]; · iexact HW
      iintro ⟨H0, H1, H2, H3, H5, HH, HX, Hs, Hx, ⟨%W', HW⟩⟩
      isplitl [HH HX Hs Hx Hg]
      · isplitl [HH]; · iexact HH
        isplitl [HX Hs Hx]
        · isplitl [HX]; · iexact HX
          isplitl [Hs]; · iexact Hs
          iexact Hx
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      iexact H5
  · have hc1 : ¬k0_cond1 (grid0.coords t) = 1#1 := fun h => absurd ((at_first t).mp h) (by omega)
    have hc2 : ¬k0_cond2 (grid0.coords t) = 1#1 := fun h => absurd ((at_begin t).mp h) h0
    have hc4 := (at_next t).mpr h0
    simp only [before0_5 m c t h0]
    rw [rowsH_next m c t.val (t.val / 11) h0 rfl]
    by_cases h5 : t.val % 11 = 10
    · have hc3 : ¬k0_cond3 (grid0.coords t) = 1#1 := fun h => absurd ((at_start t).mp h) (by omega)
      have hc5 := (at_last t).mpr h5
      rw [outAt_last m c t h5, sumAt_next m c t h0, rowsH_begin m c (t.val + 1) (by omega), flying_keep m c t h0 (by omega)]
      iintro ⟨⟨HH, HX, Hg⟩, HW, ⟨%d0, H0⟩, ⟨%d1, H1⟩, ⟨%d2, H2⟩, ⟨%d3, H3⟩, ⟨%d4, H4⟩, ⟨%d5, H5⟩⟩
      iapply (run_last c (grid0.coords t) _ (hs0_0 t) _ (hs0_1 t) _ (hs0_2 t) _ (hs0_3 t) _ (hs0_4 t) _ (hs0_5 t) hc1 hc2 hc3 hc4 hc5 _ _ _ _ _ _ _)
      isplitl [H1]; · iexact H1
      isplitl [H2]; · iexact H2
      isplitl [H3]; · iexact H3
      isplitl [H4]; · iexact H4
      isplitl [H5]; · iexact H5
      isplitl [HH]; · iexact HH
      iintro ⟨H1, H2, H3, H4, H5, HH⟩
      isplitl [HH HX Hg]
      · isplitl [HH]; · iexists _; iexact HH
        isplitl [HX]; · iexact HX
        iexact Hg
      isplitl [HW]; · iexact HW
      isplitl [H0]; · iexact H0
      isplitl [H1]; · iexact H1
      isplitl [H2]; · iexact H2
      isplitl [H3]; · iexact H3
      isplitl [H4]; · iexact H4
      iexact H5
    · have hc5 : ¬k0_cond5 (grid0.coords t) = 1#1 := fun h => absurd ((at_last t).mp h) h5
      rw [outAt_next m c t h5, sumAt_next m c t h0, rowsH_next m c (t.val + 1) (t.val / 11) (by omega) (by omega)]
      by_cases h3 : t.val % 11 = 1 ∧ t.val < 77
      · have hc3 := (at_start t).mpr h3
        have er := rows_eq m c (t.val / 11 + 1) (k0_off2 (grid0.coords t)) (k0_off2_inb (grid0.coords t) hc3) (off_start t h3.2)
        rw [flying_no m c t.val (by omega), flying_yes m c (t.val + 1) (t.val / 11 + 1) (by omega) (by omega), ← er]
        unfold idleX
        iintro ⟨⟨HH, ⟨HX, Hs, Hx⟩, Hg⟩, HW, ⟨%d0, H0⟩, ⟨%d1, H1⟩, ⟨%d2, H2⟩, ⟨%d3, H3⟩, ⟨%d4, H4⟩, ⟨%d5, H5⟩⟩
        iapply (run_start c (grid0.coords t) _ (hs0_0 t) _ (hs0_1 t) _ (hs0_2 t) _ (hs0_3 t) _ (hs0_4 t) _ (hs0_5 t) hc1 hc2 hc3 hc4 hc5 _ _ _ _ _ (actX m c) _)
        isplitl [H1]; · iexact H1
        isplitl [H2]; · iexact H2
        isplitl [H3]; · iexact H3
        isplitl [H5]; · iexact H5
        isplitl [HH]; · iexact HH
        isplitl [HX]; · iexact HX
        isplitl [Hs]; · iexact Hs
        isplitl [Hx]; · iexact Hx
        iintro ⟨H1, H2, H3, H5, HH, HX⟩
        isplitl [HH HX Hg]
        · isplitl [HH]; · iexact HH
          isplitl [HX]; · iexact HX
          iexact Hg
        isplitl [HW]; · iexact HW
        isplitl [H0]; · iexact H0
        isplitl [H1]; · iexact H1
        isplitl [H2]; · iexact H2
        isplitl [H3]; · iexact H3
        isplitl [H4]; · iexact H4
        iexact H5
      · have hc3 : ¬k0_cond3 (grid0.coords t) = 1#1 := fun h => absurd ((at_start t).mp h) h3
        rw [flying_keep m c t h0 h3]
        iintro ⟨⟨HH, HX, Hg⟩, HW, ⟨%d0, H0⟩, ⟨%d1, H1⟩, ⟨%d2, H2⟩, ⟨%d3, H3⟩, ⟨%d4, H4⟩, ⟨%d5, H5⟩⟩
        iapply (run_next c (grid0.coords t) _ (hs0_0 t) _ (hs0_1 t) _ (hs0_2 t) _ (hs0_3 t) _ (hs0_4 t) _ (hs0_5 t) hc1 hc2 hc3 hc4 hc5 _ _ _ _ _ _)
        isplitl [H1]; · iexact H1
        isplitl [H2]; · iexact H2
        isplitl [H3]; · iexact H3
        isplitl [H5]; · iexact H5
        isplitl [HH]; · iexact HH
        iintro ⟨H1, H2, H3, H5, HH⟩
        isplitl [HH HX Hg]
        · isplitl [HH]; · iexact HH
          isplitl [HX]; · iexact HX
          iexact Hg
        isplitl [HW]; · iexact HW
        isplitl [H0]; · iexact H0
        isplitl [H1]; · iexact H1
        isplitl [H2]; · iexact H2
        isplitl [H3]; · iexact H3
        isplitl [H4]; · iexact H4
        iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The transfers' semaphore and the array they read. -/
abbrev osem0 : Fin 1 → SemLoc sig := fun _ => SemLoc.dma 10
theorem ownSemFacts0 : Pipeline.OwnSemFacts spec0 osem0 := by decide
def H0 : Finset (Ref sig .tc) := {main_v0}
theorem H0_sub : H0 ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = semVal ((c : Thread nD τ), semX) 0 := by
  rw [Pipeline.ownSems0_eq_of_list c osem0 [0] (by decide) (by decide)]; rfl

theorem hbmPts_eq (c : Dev nD) :
    (bigSep H0 (fun b => ((c : Thread nD τ).loc b) ↦{fullShare} V m c b) : sProp 𝕄)
      = iprop(hbX.view.loc (c : Thread nD τ) ↦{fullShare} actX m c) := by
  rw [BI.bigSep_eq_bigSepL_of_eq [main_v0] (by decide) (by decide)]; rfl

/-- The invariant of the launch, piece by piece. -/
theorem phi_eq (c : Dev nD) :
    (Pipeline.ΦD osem0 spec0 H0 (V m) c : sProp 𝕄)
      = iprop(iprop((∃ d, owns (c : Thread nD τ) bufH fullShare d) ∗ (∃ d, owns (c : Thread nD τ) bufX fullShare d))
          ∗ (∃ r, prngReg c r) ∗ semVal ((c : Thread nD τ), semX) 0 ∗ (hbX.view.loc (c : Thread nD τ) ↦{fullShare} actX m c)) := by
  rw [Pipeline.ΦD_eq, scopedRest0_eq, ownSems_eq, hbmPts_eq]
  simp only [bufH, bufX, owns_whole]; try rfl

theorem hin (c : Dev nD) : Pipeline.ΦD osem0 spec0 H0 (V m) c ⊢ (dats m 0 c).Φ 0 := by
  rw [show (dats m 0 c).Φ 0 = carried m c 0 from rfl, phi_eq]
  unfold carried
  rw [rowsH_begin m c 0 rfl, flying_no m c 0 (by omega)]
  unfold idleX
  iintro ⟨⟨HH, HX⟩, Hg, Hs, Hx⟩
  isplitl [HH]; · iexact HH
  isplitl [HX Hs Hx]
  · isplitl [HX]; · iexact HX
    isplitl [Hs]; · iexact Hs
    iexact Hx
  iexact Hg

theorem hout (c : Dev nD) : (dats m 0 c).Φ (Fin.last cfg0.N) ⊢ Pipeline.ΦD osem0 spec0 H0 (V m) c := by
  rw [show (dats m 0 c).Φ (Fin.last cfg0.N) = carried m c cfg0.N from rfl, show cfg0.N = 88 from N_0, phi_eq]
  unfold carried
  rw [rowsH_begin m c 88 rfl, flying_no m c 88 (by omega)]
  unfold idleX
  iintro ⟨HH, ⟨HX, Hs, Hx⟩, Hg⟩
  isplitl [HH HX]
  · isplitl [HH]; · iexact HH
    iexact HX
  isplitl [Hg]; · iexact Hg
  isplitl [Hs]; · iexact Hs
  iexact Hx

/-- The host's reshapes and slice run before the kernel. -/
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The run -/

theorem run_main_quiescent : θ_run defs (onTc (τ := τ) (main (F := F))) (s₀ m ρ)
    (fun r => Pipeline.FramePost cfgs (dats m) 0 (V m) r ∧ r.2.sem = fun _ => 0) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_upto m Variants.none) (hA := A_eq m) (hin := hin m) (hout := hout m)
    (Q' := _) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c)⟩, h.2⟩)
    (run_main_quiescent m ρ)

end Cert.FfnIdeal.Value

end
-- ==== Proof.Ffn.Math.lean ====
/- The feed-forward part over the extended reals, in plain functions of rows: what the kernel and the reference both
   compute, and the sum over the hidden features taken 512 at a time. -/
module

public import proofs.«01_k».proof.Proof.Sgu.Math

@[expose] public section

set_option maxRecDepth 16384

noncomputable section

namespace Cert.FfnMath

open Idealize.ShloMosaic Cert.SguMath

/-- `z / (1 + e⁻ᶻ)`. -/
def silu (z : EReal) : EReal := z * Ideal.logistic z

/-- One hidden feature of a row: its gate's silu times its up projection. -/
def feature (h wg wu : Fin 2048 → EReal) : EReal := silu (∑ k, h k * wg k) * ∑ k, h k * wu k

/-- A row plus its feed-forward, at column `n`: `F k` is the contribution of the hidden feature `k`. -/
def feedRow (x : Fin 2048 → EReal) (F : Fin 5632 → Fin 2048 → EReal) (n : Fin 2048) : EReal := x n + ∑ k, F k n

/-- The hidden feature `j` of the block `s` of 512. -/
def featureOf (s : ℕ) (j : Fin 512) : Fin 5632 := ⟨512 * min s 10 + j.val, by omega⟩

/-- The row plus the first `s` blocks of its feed-forward. -/
def partRow (x : Fin 2048 → EReal) (F : Fin 5632 → Fin 2048 → EReal) (s : ℕ) (n : Fin 2048) : EReal :=
  x n + ∑ b ∈ Finset.range s, ∑ j : Fin 512, F (featureOf b j) n

theorem partRow_one (x : Fin 2048 → EReal) (F : Fin 5632 → Fin 2048 → EReal) (n : Fin 2048) :
    partRow x F 1 n = x n + ∑ j : Fin 512, F (featureOf 0 j) n := by
  unfold partRow
  rw [Finset.sum_range_one]

/-- One block more. -/
theorem partRow_succ (x : Fin 2048 → EReal) (F : Fin 5632 → Fin 2048 → EReal) (s : ℕ) (n : Fin 2048) :
    partRow x F (s + 1) n = partRow x F s n + ∑ j : Fin 512, F (featureOf s j) n := by
  unfold partRow
  rw [Finset.sum_range_succ, add_assoc]

/-- Eleven blocks are all the hidden features. -/
theorem partRow_all (x : Fin 2048 → EReal) (F : Fin 5632 → Fin 2048 → EReal) (n : Fin 2048) :
    partRow x F 11 n = feedRow x F n := by
  unfold partRow feedRow
  rw [Finset.sum_range, ← Fintype.sum_prod_type' (f := fun (b : Fin 11) (j : Fin 512) => F (featureOf b.val j) n)]
  refine congrArg (x n + ·) ((Fintype.sum_equiv (finProdFinEquiv (m := 11) (n := 512)) _ (fun k : Fin (11 * 512) => F k n) fun p => ?_))
  refine congrArg (fun k => F k n) (Fin.ext ?_)
  have h := p.1.isLt
  show 512 * min p.1.val 10 + p.2.val = p.2.val + 512 * p.1.val
  omega

/-- The reciprocal root mean square of a row (2048 is 0x45000000, the epsilon 0x358637BD). -/
def rowScale (z : Fin 2048 → EReal) : EReal :=
  Ideal.rsqrt (Ideal.div (∑ j, z j * z j) (Ideal.ofBits FTy.f32 1157627904#32) + Ideal.ofBits FTy.f32 897988541#32)

/-- The batch and the place in it of a flat row. -/
def batchOf (r : Fin 8192) : Fin 4 := ⟨r.val / 2048, by omega⟩
def placeOf (r : Fin 8192) : Fin 2048 := ⟨r.val % 2048, by omega⟩

/-- The flat row that row `r` of tile `k` of 1024 is. -/
def flatRow (k : ℕ) (r : Fin 1024) : Fin 8192 := ⟨1024 * min k 7 + r.val, by omega⟩

end Cert.FfnMath

end
-- ==== Proof.Ffn.Values.lean ====
/- What the feed-forward kernel's blocks hold over the extended reals: rows of the plain functions. -/
module

public import proofs.«01_k».proof.Proof.Ffn.Block
public import proofs.«01_k».proof.Proof.Ffn.Math

@[expose] public section

set_option maxRecDepth 16384

noncomputable section

namespace Cert.FfnIdeal.Value

open Idealize.ShloMosaic Idealize.ShloMosaic.TcCoe Idealize.ShloMosaic.Tactic
open Cert.FfnIdeal.Gen Cert.SguMath Cert.FfnMath

/-- The normalised rows at an element. -/
theorem normRows_apply (x : Vec Ideal S1024x2048 .f32) (g : Vec Ideal S1x2048 .f32) (j : S1024x2048.Idx) :
    normRows x g j = rmsRow (fun k => x (ix2 (j 0) k)) (fun k => g (ix2 0 k)) (j 1) := by
  unfold normRows k0_pay4
  pointwise
  rw [show x j = x (ix2 (j 0) (j 1)) from congrArg x (eq_ix2 j)]
  rfl

/-- The final normalisation at an element. -/
theorem lastNorm_apply (o : Vec Ideal S1024x2048 .f32) (g : Vec Ideal S1x2048 .f32) (j : S1024x2048.Idx) :
    lastNorm o g j = rmsRow (fun k => o (ix2 (j 0) k)) (fun k => g (ix2 0 k)) (j 1) := by
  unfold lastNorm k0_pay3
  pointwise
  rw [show o j = o (ix2 (j 0) (j 1)) from congrArg o (eq_ix2 j)]
  rfl

/-- A further partial sum at an element. -/
theorem nextSum_apply (o : Vec Ideal S1024x2048 .f32) (h : Vec Ideal S1024x2048 .bf16) (wg wu : Vec Ideal S1x2048x512 .f32)
    (wd : Vec Ideal S1x512x2048 .f32) (y : S1024x2048.Idx) : nextSum o h wg wu wd y
      = o y + ∑ j : Fin 512, feature (fun k => h (ix2 (y 0) k)) (fun k => wg (ix3 0 k j)) (fun k => wu (ix3 0 k j)) * wd (ix3 0 j (y 1)) := by
  unfold nextSum k0_pay2
  pointwise
  rfl

/-- The first partial sum at an element. -/
theorem firstSum_apply (x : Vec Ideal S1024x2048 .f32) (g : Vec Ideal S1x2048 .f32) (wg wu : Vec Ideal S1x2048x512 .f32)
    (wd : Vec Ideal S1x512x2048 .f32) (y : S1024x2048.Idx) : firstSum x g wg wu wd y
      = x y + ∑ j : Fin 512, feature (rmsRow (fun k => x (ix2 (y 0) k)) (fun k => g (ix2 0 k))) (fun k => wg (ix3 0 k j)) (fun k => wu (ix3 0 k j))
          * wd (ix3 0 j (y 1)) := by
  have hn := normRows_apply x g
  have ht : firstSum x g wg wu wd = nextSum x (normRows x g) wg wu wd := by
    unfold firstSum nextSum k0_pay1 k0_pay2 k0_pay6 k0_pay7 k0_pay5
    rw [show shapeCast S1024x2048 x shapeCasts_S1024x2048_S1024x2048 = x from shapeCast_self _ _]
  rw [ht, nextSum_apply]
  refine congrArg (x y + ·) (Finset.sum_congr rfl fun j _ => congrArg (fun r => feature r _ _ * _) (funext fun k => hn _))

end Cert.FfnIdeal.Value

end
-- ==== Proof.Ffn.RefValues.lean ====
/- What the feed-forward reference computes over the extended reals, at an element. -/
module

public import proofs.«01_k».proof.Proof.Gen.FfnRefIdeal.Read
public import proofs.«01_k».proof.Proof.Ffn.Math

@[expose] public section

set_option maxRecDepth 16384

noncomputable section

namespace Cert.FfnRefIdeal.Value

open Idealize.ShloMosaic Idealize.ShloMosaic.TcCoe Idealize.ShloMosaic.Tactic
open Cert.FfnRefIdeal Cert.FfnRefIdeal.Gen Cert.FfnRefIdeal.Read Cert.SguMath Cert.FfnMath

variable (x0 : (⟨S4x2048x2048, .f32⟩ : BufTy).Contents (Elt Ideal)) (x1 : (⟨S2x2048, .f32⟩ : BufTy).Contents (Elt Ideal))
  (x2 x3 : (⟨S2x2048x5632, .f32⟩ : BufTy).Contents (Elt Ideal)) (x4 : (⟨S2x5632x2048, .f32⟩ : BufTy).Contents (Elt Ideal))
  (x5 : (⟨S2048, .f32⟩ : BufTy).Contents (Elt Ideal))

/-- The contribution of the hidden feature `k` of a normalised row `h` to column `n`. -/
def contrib (h : Fin 2048 → EReal) (k : Fin 5632) (n : Fin 2048) : EReal :=
  feature h (fun l => x2 (ix3 1 l k)) (fun l => x3 (ix3 1 l k)) * x4 (ix3 1 k n)

/-- The normalised rows. -/
theorem normed (i : S4x2048x2048.Idx) :
    val_main_v14 (F := Ideal) x0 x1 i = rmsRow (fun k => x0 (ix3 (i 0) (i 1) k)) (fun k => x1 (ix2 1 k)) (i 2) := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rw [show x0 i = x0 (ix3 (i 0) (i 1) (i 2)) from congrArg x0 (eq_ix3 i)]
  rfl

/-- The hidden features. -/
theorem featured (i : S4x2048x5632.Idx) :
    val_main_v24 (F := Ideal) x0 x1 x2 x3 i = feature (rmsRow (fun k => x0 (ix3 (i 0) (i 1) k)) (fun k => x1 (ix2 1 k)))
      (fun l => x2 (ix3 1 l (i 2))) (fun l => x3 (ix3 1 l (i 2))) := by
  have hn := normed x0 x1
  unfold val_main_v24 val_main_v23 val_main_v22 val_main_call0_v5 val_main_call0_v4 val_main_call0_v3 val_main_call0_v2 val_main_call0_v1 val_main_call0_v0 val_main_call0_cst val_main_call0_cst_0 val_main_v21 val_main_v18 val_main_v17 val_main_v16 val_main_v15
  generalize val_main_v14 (F := Ideal) x0 x1 = h at hn
  pointwise
  unfold feature silu Ideal.logistic
  have hs : ∀ (w : Fin 2048 → EReal), (∑ k, h (ix3 (i 0) (i 1) k) * w k)
      = ∑ k, rmsRow (fun k => x0 (ix3 (i 0) (i 1) k)) (fun k => x1 (ix2 1 k)) k * w k :=
    fun w => Finset.sum_congr rfl fun k _ => congrArg (· * w k) (hn _)
  rw [hs, hs]

/-- The rows with their feed-forward added. -/
theorem summed (i : S4x2048x2048.Idx) :
    val_main_v26 (F := Ideal) x0 x1 x2 x3 x4 i = feedRow (fun k => x0 (ix3 (i 0) (i 1) k))
      (contrib x2 x3 x4 (rmsRow (fun k => x0 (ix3 (i 0) (i 1) k)) (fun k => x1 (ix2 1 k)))) (i 2) := by
  have hf := featured x0 x1 x2 x3
  unfold val_main_v26 val_main_v25 val_main_v20 val_main_v19
  generalize val_main_v24 (F := Ideal) x0 x1 x2 x3 = h at hf
  pointwise
  unfold feedRow contrib
  rw [show x0 i = x0 (ix3 (i 0) (i 1) (i 2)) from congrArg x0 (eq_ix3 i)]
  exact congrArg (_ + ·) (Finset.sum_congr rfl fun k _ => congrArg (· * _) (hf _))

/-- The result, flat. -/
theorem result (i : S8192x2048.Idx) :
    val_main_v40 (F := Ideal) x0 x1 x2 x3 x4 x5 i = rmsRow (feedRow (fun k => x0 (ix3 (batchOf (i 0)) (placeOf (i 0)) k))
      (contrib x2 x3 x4 (rmsRow (fun k => x0 (ix3 (batchOf (i 0)) (placeOf (i 0)) k)) (fun k => x1 (ix2 1 k)))))
      (fun k => x5 (ix1 k)) (i 1) := by
  have hs := summed x0 x1 x2 x3 x4
  unfold val_main_v40 val_main_v39 val_main_v38 val_main_v37 val_main_v36 val_main_v35 val_main_v34 val_main_v33 val_main_v32 val_main_v31 val_main_v30 val_main_v29 val_main_v28 val_main_v27 val_main_cst_2 val_main_cst_3 val_main_cst_4
  generalize val_main_v26 (F := Ideal) x0 x1 x2 x3 x4 = z at hs
  pointwise
  simp only [hs]
  rfl

end Cert.FfnRefIdeal.Value

end
-- ==== Proof.Ffn.Arrays.lean ====
/- What the feed-forward kernel's blocks are read from, and what its result array holds in the end, over the extended
   reals. -/
module

public import proofs.«01_k».proof.Proof.Ffn.Frame
public import proofs.«01_k».proof.Proof.Ffn.Values
public import proofs.«01_k».proof.Proof.Ffn.RefValues
public import Idealize.ShloMosaic.Lib.StableHlo.ReadAt
public import Idealize.ShloMosaic.Lib.Pipeline.ValueKit

@[expose] public section

set_option maxRecDepth 16384

noncomputable section

namespace Cert.FfnIdeal.Value

open Idealize.ShloMosaic Idealize.ShloMosaic.TcCoe Idealize.ShloMosaic.Tactic
open Idealize.ShloMosaic.Pipeline (Dat Cfg Window)
open Cert.FfnIdeal.Gen Cert.SguMath Cert.FfnMath
open Cert.FfnRefIdeal.Value (contrib)

variable (m : (ℓ : Loc nD τ sig) → Buf (Elt Ideal) ℓ)

/-! ## The arrays the region finds -/

theorem flat_at (c : Dev nD) (j : S8192x2048.Idx) :
    V m c main_v0 j = m ((c : Thread nD τ).loc main_arg0) (ix3 (batchOf (j 0)) (placeOf (j 0)) (j 1)) := by
  unfold V
  after_reads_at
  rfl
theorem gain_at (c : Dev nD) (j : S1x2048.Idx) :
    V m c main_v3 j = m ((c : Thread nD τ).loc main_arg1) (ix2 1 (j 1)) := by
  unfold V
  after_reads_at
theorem final_at (c : Dev nD) (j : S1x2048.Idx) :
    V m c main_v4 j = m ((c : Thread nD τ).loc main_arg5) (ix1 (j 1)) := by
  unfold V
  after_reads_at

/-! ## The windows' blocks -/

theorem idx0 : ∀ t : Fin cfg0.N, win0_0.index t = ![0, 0] :=
  (by decide +kernel : ∀ t : Fin grid0.N, win0_0.index t = ![0, 0])
theorem idx1 : ∀ t : Fin cfg0.N, win0_1.index t = ![1, 0, t.val % 11] :=
  (by decide +kernel : ∀ t : Fin grid0.N, win0_1.index t = ![1, 0, t.val % 11])
theorem idx2 : ∀ t : Fin cfg0.N, win0_2.index t = ![1, 0, t.val % 11] :=
  (by decide +kernel : ∀ t : Fin grid0.N, win0_2.index t = ![1, 0, t.val % 11])
theorem idx3 : ∀ t : Fin cfg0.N, win0_3.index t = ![1, t.val % 11, 0] :=
  (by decide +kernel : ∀ t : Fin grid0.N, win0_3.index t = ![1, t.val % 11, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 11, 0] :=
  (by decide +kernel : ∀ t : Fin grid0.N, win0_5.index t = ![t.val / 11, 0])

theorem g_at (c : Dev nD) (t : Fin cfg0.N) (k : Fin 2048) : iblk m c 0 t (ix2 0 k)
    = m ((c : Thread nD τ).loc main_arg1) (ix2 1 k) := by
  refine Eq.trans ?_ (gain_at m c (ix2 0 k))
  unfold iblk
  blk_ext [idx0 t]

theorem wg_at (c : Dev nD) (t : Fin cfg0.N) (k : Fin 2048) (j : Fin 512) : iblk m c 1 t (ix3 0 k j)
    = m ((c : Thread nD τ).loc main_arg2) (ix3 1 k (featureOf (t.val % 11) j)) := by
  refine Eq.trans ?_ (congrFun (V_main_arg2 m c) _)
  have h : min (t.val % 11) 10 = t.val % 11 := by omega
  unfold iblk
  blk_ext [idx1 t, featureOf, h]

theorem wu_at (c : Dev nD) (t : Fin cfg0.N) (k : Fin 2048) (j : Fin 512) : iblk m c 2 t (ix3 0 k j)
    = m ((c : Thread nD τ).loc main_arg3) (ix3 1 k (featureOf (t.val % 11) j)) := by
  refine Eq.trans ?_ (congrFun (V_main_arg3 m c) _)
  have h : min (t.val % 11) 10 = t.val % 11 := by omega
  unfold iblk
  blk_ext [idx2 t, featureOf, h]

theorem wd_at (c : Dev nD) (t : Fin cfg0.N) (j : Fin 512) (n : Fin 2048) : iblk m c 3 t (ix3 0 j n)
    = m ((c : Thread nD τ).loc main_arg4) (ix3 1 (featureOf (t.val % 11) j) n) := by
  refine Eq.trans ?_ (congrFun (V_main_arg4 m c) _)
  have h : min (t.val % 11) 10 = t.val % 11 := by omega
  unfold iblk
  blk_ext [idx3 t, featureOf, h]

theorem f_at (c : Dev nD) (t : Fin cfg0.N) (k : Fin 2048) : iblk m c 4 t (ix2 0 k)
    = m ((c : Thread nD τ).loc main_arg5) (ix1 k) := by
  refine Eq.trans ?_ (final_at m c (ix2 0 k))
  unfold iblk
  blk_ext [idx4 t]

/-! ## The tiles -/

/-- Row `r` of tile `k` of the activations. -/
def xRow (c : Dev nD) (k : ℕ) (r : Fin 1024) (l : Fin 2048) : EReal :=
  m ((c : Thread nD τ).loc main_arg0) (ix3 (batchOf (flatRow k r)) (placeOf (flatRow k r)) l)

theorem x_at (c : Dev nD) (k : ℕ) (r : Fin 1024) (l : Fin 2048) : xT m c k (ix2 r l) = xRow m c k r l := by
  refine Eq.trans ?_ (flat_at m c (ix2 (flatRow k r) l))
  unfold xT
  refine congrArg (V m c main_v0) (funext fun a => ?_)
  fin_cases a
  · exact Fin.ext (by show 1024 * min k 7 + 1 * r.val = 1024 * min k 7 + r.val; omega)
  · exact Fin.ext (by show 0 + 1 * l.val = l.val; omega)

/-- Its normalised row. -/
def hRow (c : Dev nD) (k : ℕ) (r : Fin 1024) : Fin 2048 → EReal :=
  rmsRow (xRow m c k r) (fun l => m ((c : Thread nD τ).loc main_arg1) (ix2 1 l))

theorem h_at (c : Dev nD) (k : ℕ) (r : Fin 1024) (l : Fin 2048) : hT m c k (ix2 r l) = hRow m c k r l := by
  unfold hT
  rw [normRows_apply]
  have hx : (fun l => xT m c k (ix2 r l)) = _ := funext fun l => x_at m c k r l
  have hg : (fun l => iblk m c 0 (begins k) (ix2 0 l)) = _ := funext fun l => g_at m c _ l
  exact congrFun (congr (congrArg rmsRow hx) hg) _

/-- The contribution of each hidden feature to it. -/
abbrev parts (c : Dev nD) (k : ℕ) (r : Fin 1024) : Fin 5632 → Fin 2048 → EReal :=
  contrib (m ((c : Thread nD τ).loc main_arg2)) (m ((c : Thread nD τ).loc main_arg3)) (m ((c : Thread nD τ).loc main_arg4)) (hRow m c k r)

/-- A block's contribution. -/
theorem part_at (c : Dev nD) (t : Fin cfg0.N) (h : Fin 2048 → EReal) (j : Fin 512) (n : Fin 2048) :
    feature h (fun k => iblk m c 1 t (ix3 0 k j)) (fun k => iblk m c 2 t (ix3 0 k j)) * iblk m c 3 t (ix3 0 j n)
      = contrib (m ((c : Thread nD τ).loc main_arg2)) (m ((c : Thread nD τ).loc main_arg3)) (m ((c : Thread nD τ).loc main_arg4)) h
          (featureOf (t.val % 11) j) n := by
  have hg : (fun k => iblk m c 1 t (ix3 0 k j)) = _ := funext fun k => wg_at m c t k j
  have hu : (fun k => iblk m c 2 t (ix3 0 k j)) = _ := funext fun k => wu_at m c t k j
  exact congrArg₂ (· * ·) (congr (congrArg (feature h) hg) hu) (wd_at m c t j n)

/-- The partial sum where a tile begins, -/
theorem sum_begin (c : Dev nD) (t : Fin cfg0.N) (h : t.val % 11 = 0) (r : Fin 1024) (l : Fin 2048) :
    sumAt m c t.val t.isLt (ix2 r l) = partRow (xRow m c (t.val / 11) r) (parts m c (t.val / 11) r) (t.val % 11 + 1) l := by
  rw [sumAt_begin m c t h, firstSum_apply, h, partRow_one]
  have hx : (fun l => xT m c (t.val / 11) (ix2 r l)) = _ := funext fun l => x_at m c (t.val / 11) r l
  have hg : (fun l => iblk m c 0 t (ix2 0 l)) = _ := funext fun l => g_at m c t l
  have hr : rmsRow (fun l => xT m c (t.val / 11) (ix2 r l)) (fun l => iblk m c 0 t (ix2 0 l)) = hRow m c (t.val / 11) r :=
    congr (congrArg rmsRow hx) hg
  refine congrArg₂ (· + ·) (x_at m c (t.val / 11) r l) (Finset.sum_congr rfl fun j _ => ?_)
  refine (part_at m c t _ j l).trans ?_
  rw [h]
  exact congrArg (fun q => contrib _ _ _ q _ _) hr

/-- and at every other point. -/
theorem sum_next (c : Dev nD) (t : Fin cfg0.N) (h : t.val % 11 ≠ 0) (r : Fin 1024) (l : Fin 2048)
    (ih : sumAt m c (prev t).val (prev t).isLt (ix2 r l) = partRow (xRow m c (t.val / 11) r) (parts m c (t.val / 11) r) (t.val % 11) l) :
    sumAt m c t.val t.isLt (ix2 r l) = partRow (xRow m c (t.val / 11) r) (parts m c (t.val / 11) r) (t.val % 11 + 1) l := by
  rw [sumAt_next m c t h, nextSum_apply, partRow_succ, ih]
  have hr : (fun l => hT m c (t.val / 11) (ix2 r l)) = hRow m c (t.val / 11) r := funext fun l => h_at m c (t.val / 11) r l
  refine congrArg₂ (· + ·) rfl (Finset.sum_congr rfl fun j _ => ?_)
  refine (part_at m c t _ j l).trans ?_
  exact congrArg (fun q => contrib _ _ _ q _ _) hr

/-- The partial sum after a point. -/
theorem sum_at (c : Dev nD) (n : ℕ) (hn : n < cfg0.N) (r : Fin 1024) (l : Fin 2048) :
    sumAt m c n hn (ix2 r l) = partRow (xRow m c (n / 11) r) (parts m c (n / 11) r) (n % 11 + 1) l := by
  induction n with
  | zero => exact sum_begin m c ⟨0, hn⟩ rfl r l
  | succ n ih =>
    by_cases h : (n + 1) % 11 = 0
    · exact sum_begin m c ⟨n + 1, hn⟩ h r l
    · refine sum_next m c ⟨n + 1, hn⟩ h r l ?_
      have h1 : (n + 1) % 11 = n % 11 + 1 := by omega
      have h2 : (n + 1) / 11 = n / 11 := by omega
      show sumAt m c n _ (ix2 r l) = partRow (xRow m c ((n + 1) / 11) r) (parts m c ((n + 1) / 11) r) ((n + 1) % 11) l
      rw [h1, h2]
      exact ih _

/-! ## The result array -/

theorem out_at (c : Dev nD) (t : Fin cfg0.N) (ht : t.val % 11 = 10) (y : S1024x2048.Idx) (i : S8192x2048.Idx)
    (h0 : i 0 = flatRow (t.val / 11) (y 0)) (h1 : i 1 = y 1) :
    outAt m c t y = Cert.FfnRefIdeal.Read.val_main_v40 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) i := by
  rw [Cert.FfnRefIdeal.Value.result, outAt_last m c t ht, lastNorm_apply, h0, h1]
  have hs : (fun k => sumAt m c t.val t.isLt (ix2 (y 0) k)) = feedRow (xRow m c (t.val / 11) (y 0)) (parts m c (t.val / 11) (y 0)) :=
    funext fun k => (sum_at m c t.val t.isLt (y 0) k).trans (by rw [ht, partRow_all])
  have hg : (fun k => iblk m c 4 t (ix2 0 k)) = _ := funext fun k => f_at m c t k
  exact congrFun (congr (congrArg rmsRow hs) hg) _

/-- The result array holds the reference's result. -/
theorem out_ffn (c : Dev nD) : (dats m 0 c).arrAt 5 cfg0.N
    = Cert.FfnRefIdeal.Read.val_main_v40 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 5 _ (by decide +kernel) fun t hf y => ?_
  have ht : t.val % 11 = 10 := of_decide_eq_true ((flush5 t).symm.trans hf)
  have h88 := lt88 t
  refine out_at m c t ht y _ (Fin.ext ?_) (Fin.ext ?_)
  · show _ = 1024 * min (t.val / 11) 7 + (y 0).val
    blk_simp [idx5 t]
    omega
  · blk_simp [idx5 t]

end Cert.FfnIdeal.Value

end
-- ==== Proof.Ffn.Claims.lean ====
/- The claims on the feed-forward part: both programs end with their semaphores at zero and their arguments as they
   were, the reference too, and over the extended reals the kernel's result is the reference's. -/
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Arrays
public import Idealize.ShloMosaic.Adequacy
public import Idealize.ShloMosaic.Init

@[expose] public section

noncomputable section

namespace Cert.Proof

open Idealize.ShloMosaic Idealize.ShloMosaic.Tactic Idealize.SL.Sem

/-- The kernel's frame: its text is the one run over any floats. -/
theorem frame_ffn : Cert.quiescent_Ffn (hFfn := Cert.Ffn.Gen.facts) := fun m ρ _ =>
  Eq.mp (by sl_kernel_rfl) (Cert.FfnIdeal.Value.frame (F := Bits) m ρ)

/-- The same run over the extended reals. -/
theorem frame_ffn_ideal : Cert.quiescent_FfnIdeal (hFfnIdeal := Cert.FfnIdeal.Gen.facts) := fun m ρ _ =>
  Cert.FfnIdeal.Value.frame (F := Ideal) m ρ

/-- The reference's frame. -/
theorem frame_ffn_ref : Cert.quiescent_FfnRefIdeal (hFfnRefIdeal := Cert.FfnRefIdeal.Gen.facts) := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The kernel's result after its run. -/
theorem run_ffn (m : (ℓ : Loc Cert.FfnIdeal.nD Cert.FfnIdeal.τ Cert.FfnIdeal.sig) → Buf (Elt Ideal) ℓ)
    (ρ : Dev Cert.FfnIdeal.nD → PrngReg) :
    θ_run (Cert.FfnIdeal.defs (F := Ideal)) (onTc (τ := Cert.FfnIdeal.τ) (Cert.FfnIdeal.main (F := Ideal))) ⟨m, fun _ => 0, ρ⟩
      (fun r => ∀ c : Dev Cert.FfnIdeal.nD,
        r.2.mem ((c.tc : Thread Cert.FfnIdeal.nD Cert.FfnIdeal.τ).loc Cert.FfnIdeal.main_v5)
          = (Cert.FfnIdeal.Value.dats m 0 c).arrAt 5 Cert.FfnIdeal.cfg0.N) :=
  (θ_run Cert.FfnIdeal.defs _ _).mono (fun _ h c => (h c).1 5) (Cert.FfnIdeal.Value.run_main m ρ)

/-- The normalised rows are the reference's. -/
theorem algebraic_ffn : Cert.algebraic_FfnIdeal_FfnRefIdeal (hFfnIdeal := Cert.FfnIdeal.Gen.facts)
    (hFfnRefIdeal := Cert.FfnRefIdeal.Gen.facts) := by
  intro m ρ m' ρ' _ hargs
  refine ⟨fun c => (Cert.FfnIdeal.Value.dats m 0 c).arrAt 5 Cert.FfnIdeal.cfg0.N,
    (θ_run Cert.FfnIdeal.defs _ _).mono (fun _ h c => ⟨h.1 c, h.2.1 c⟩)
      (θ_run_and (run_ffn m ρ) (Cert.FfnIdeal.Value.frame m ρ)),
    (θ_run Cert.FfnRefIdeal.defs _ _).mono (fun _ h c => ⟨?_, (h c).2⟩) (Cert.FfnRefIdeal.Value.run (F := Ideal) m' ρ')⟩
  obtain ⟨h0, h1, h2, h3, h4, h5⟩ := hargs c
  rw [(h c).1, Cert.FfnRefIdeal.Read.val_main_v40_eq, h0, h1, h2, h3, h4, h5]
  exact (Cert.FfnIdeal.Value.out_ffn m c).symm

end Cert.Proof

end
-- ==== Proof.FfnFirst.Block.lean ====
/- What the stores of the first layer's feed-forward kernel write, as functions of what its loads read. Stated over any floats. -/
module

public import proofs.«01_k».proof.Proof.Gen.FfnFirstIdeal.Frame
public import proofs.«01_k».proof.Proof.Gen.FfnFirstIdeal.Skeleton
public import proofs.«01_k».proof.Proof.Common.Whole

@[expose] public section

set_option maxRecDepth 16384

noncomputable section

namespace Cert.FfnFirstIdeal.Value

open Idealize.ShloMosaic Idealize.ShloMosaic.TcCoe Idealize.ShloMosaic.Tactic
open Cert.FfnFirstIdeal.Gen

variable {F : FTy → Type} [FloatOps F]

/-- A tile's normalised rows, rounded to bf16. -/
def normRows (x : Vec F S1024x2048 .f32) (g : Vec F S1x2048 .f32) : FVec F S1024x2048 .bf16 := k0_pay5 x g

/-- The tile plus what the first 512 hidden features contribute to it. -/
def firstSum (x : Vec F S1024x2048 .f32) (g : Vec F S1x2048 .f32) (wg wu : Vec F S1x2048x512 .f32) (wd : Vec F S1x512x2048 .f32) :
    FVec F S1024x2048 .f32 :=
  k0_pay1 x (k0_pay7 wg wu (normRows x g)) (k0_pay8 wg wu (normRows x g)) wd

theorem firstSum_of {x x' : Vec F S1024x2048 .f32} {g : Vec F S1x2048 .f32} {h : Vec F S1024x2048 .bf16} {wg wg' wu wu' : Vec F S1x2048x512 .f32}
    {wd wd' : Vec F S1x512x2048 .f32} (hx : x' = x) (hh : h = normRows x g) (hwg : wg' = wg) (hwu : wu' = wu) (hwd : wd' = wd) :
    k0_pay1 x' (k0_pay7 wg' wu' h) (k0_pay8 wg' wu' h) wd' = firstSum x g wg wu wd := by
  subst hx hh hwg hwu hwd; rfl

/-- A partial sum plus what 512 further hidden features contribute. -/
def nextSum (o : Vec F S1024x2048 .f32) (h : Vec F S1024x2048 .bf16) (wg wu : Vec F S1x2048x512 .f32) (wd : Vec F S1x512x2048 .f32) :
    FVec F S1024x2048 .f32 :=
  k0_pay2 o wg wu h wd

theorem nextSum_of {o o' : Vec F S1024x2048 .f32} {h h' : Vec F S1024x2048 .bf16} {wg wg' wu wu' : Vec F S1x2048x512 .f32}
    {wd wd' : Vec F S1x512x2048 .f32} (ho : o' = o) (hwg : wg' = wg) (hwu : wu' = wu) (hh : h' = h) (hwd : wd' = wd) :
    k0_pay2 o' wg' wu' h' wd' = nextSum o h wg wu wd := by
  subst ho hh hwg hwu hwd; rfl

/-- The same at the last point of a tile. -/
theorem lastSum_of {o o' : Vec F S1024x2048 .f32} {h h' : Vec F S1024x2048 .bf16} {wg wg' wu wu' : Vec F S1x2048x512 .f32}
    {wd wd' : Vec F S1x512x2048 .f32} (ho : o' = o) (hwg : wg' = wg) (hwu : wu' = wu) (hh : h' = h) (hwd : wd' = wd) :
    k0_pay3 o' wg' wu' h' wd' = nextSum o h wg wu wd := by
  subst ho hh hwg hwu hwd; rfl

/-- The reciprocal root mean square of the rows of that sum, in each of 128 columns. -/
def lastScale (o : Vec F S1024x2048 .f32) (h : Vec F S1024x2048 .bf16) (wg wu : Vec F S1x2048x512 .f32) (wd : Vec F S1x512x2048 .f32) :
    FVec F S1024x128 .f32 :=
  k0_pay4 o wg wu h wd

theorem lastScale_of {o o' : Vec F S1024x2048 .f32} {h h' : Vec F S1024x2048 .bf16} {wg wg' wu wu' : Vec F S1x2048x512 .f32}
    {wd wd' : Vec F S1x512x2048 .f32} (ho : o' = o) (hwg : wg' = wg) (hwu : wu' = wu) (hh : h' = h) (hwd : wd' = wd) :
    k0_pay4 o' wg' wu' h' wd' = lastScale o h wg wu wd := by
  subst ho hh hwg hwu hwd; rfl

end Cert.FfnFirstIdeal.Value

end
-- ==== Proof.FfnFirst.Body.lean ====
/- The body at a point of the grid, by what it does there: begin a tile (waiting for its transfer, which at the first
   point it also starts), add a further partial sum, add one while starting the next tile's transfer, end a tile. -/
module

public import proofs.«01_k».proof.Proof.FfnFirst.Block

@[expose] public section

set_option maxRecDepth 16384

noncomputable section

namespace Cert.FfnFirstIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnFirstIdeal.Gen
open Cert.Whole

variable {F : FTy → Type} [FloatOps F]

local notation "𝕄" => MT nD τ sig Unit (Elt F) ℕ (Pipeline.UD sig nD τ) ℕ

/-- The activations left in HBM, the buffer of normalised rows, the buffer a tile is fetched into. -/
abbrev hbX : Memref sig .tc .hbm S8192x2048 .f32 := Memref.whole main_v0
abbrev bufH : Memref sig .tc .vmem S1024x2048 .bf16 := Memref.whole cc0_scratch0
abbrev bufX : Memref sig .tc .vmem S1024x2048 .f32 := Memref.whole cc0_scratch1
/-- The transfers' semaphore. -/
abbrev semX : SemLoc sig := .dma cc0_scratch2.sem

/-- 1024 rows of the activations, from `off`. -/
abbrev rowsX (off : Fin 2 → ℕ) (inb : ∀ a, off a + S1024x2048.size a ≤ S8192x2048.size a) : Memref sig .tc .hbm S1024x2048 .f32 :=
  hbX.slice (Rect.unit (s := S8192x2048) off S1024x2048.size inb) (fun _ => rfl)

/-- The tile `x` on its way: a transfer that fills the buffer with it, and the activations' other rows. -/
def coming (c : Dev nD) (fx : Buf (Elt F) (hbX.view.loc (c : Thread nD τ))) (x : Vec F S1024x2048 .f32) : sProp 𝕄 :=
  iprop(∃ off, ∃ inb, ∃ g, ⌜bufX.view.read (Elt F) g = x⌝
    ∗ Transfers.Flight (countersEmb (U := Pipeline.UD sig nD τ)) (c : Thread nD τ) (SemLoc.dma (sig := sig) cc0_scratch2.sem) () 262144
        iprop((bufX.view.loc (c : Thread nD τ) ↦[bufX.view.set]{fullShare} g)
          ∗ (hbX.view.loc (c : Thread nD τ) ↦[(rowsX off inb).view.set]{fullShare} fx))
    ∗ (hbX.view.loc (c : Thread nD τ) ↦[Finset.univ \ (rowsX off inb).view.set]{fullShare} fx))

set_option maxHeartbeats 4000000 in
/-- A point between: one further partial sum. -/
theorem run_next (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x128 .f32) (harg9 : arg9.IsWhole)
    (hc1 : ¬k0_cond1 i = 1#1) (hc2 : ¬k0_cond2 i = 1#1) (hc3 : ¬k0_cond3 i = 1#1) (hc4 : k0_cond4 i = 1#1) (hc5 : ¬k0_cond5 i = 1#1)
    (wg wu : Vec F S1x2048x512 .f32) (wd : Vec F S1x512x2048 .f32) (o : Vec F S1024x2048 .f32) (h : Vec F S1024x2048 .bf16)
    (K : PUnit → sProp 𝕄) :
    iprop(owns (c : Thread nD τ) arg4 fullShare wg ∗ owns (c : Thread nD τ) arg5 fullShare wu ∗ owns (c : Thread nD τ) arg6 fullShare wd
        ∗ owns (c : Thread nD τ) arg8 fullShare o ∗ owns (c : Thread nD τ) bufH fullShare h
        ∗ (iprop(owns (c : Thread nD τ) arg4 fullShare wg ∗ owns (c : Thread nD τ) arg5 fullShare wu ∗ owns (c : Thread nD τ) arg6 fullShare wd
            ∗ owns (c : Thread nD τ) arg8 fullShare (nextSum o h wg wu wd) ∗ owns (c : Thread nD τ) bufH fullShare h) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 arg9 harg9 bufH (Memref.isWhole_whole _) bufX (Memref.isWhole_whole _) cc0_scratch2) K := by
  rw [cc0_ffn_eq_skeleton]; unfold cc0_ffn_skel
  unfold owns
  iintro ⟨⟨%f4, %hf4, H4⟩, ⟨%f5, %hf5, H5⟩, ⟨%f6, %hf6, H6⟩, ⟨%f8, %hf8, H8⟩, ⟨%f9, %hf9, H9⟩, Hk⟩
  subst hf4 hf5 hf6 hf8 hf9
  sl_exec (disch := first | sl_exact hc1 | sl_exact hc2 | sl_exact hc3 | sl_exact hc4 | sl_exact hc5)
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (nextSum_of (readAt_whole _ _ _) (readAt_whole _ _ _) (readAt_whole _ _ _) (readAt_whole _ _ _) (readAt_whole _ _ _))
  · iexists _; isplitr; swap; · iexact H9
    ipureintro; rfl

set_option maxHeartbeats 4000000 in
/-- The second point of a tile that is not the last: the next tile's transfer starts, and one further partial sum. -/
theorem run_start (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x128 .f32) (harg9 : arg9.IsWhole)
    (hc1 : ¬k0_cond1 i = 1#1) (hc2 : ¬k0_cond2 i = 1#1) (hc3 : k0_cond3 i = 1#1) (hc4 : k0_cond4 i = 1#1) (hc5 : ¬k0_cond5 i = 1#1)
    (wg wu : Vec F S1x2048x512 .f32) (wd : Vec F S1x512x2048 .f32) (o : Vec F S1024x2048 .f32) (h : Vec F S1024x2048 .bf16)
    (fx : Buf (Elt F) (hbX.view.loc (c : Thread nD τ)))
    (K : PUnit → sProp 𝕄) :
    iprop(owns (c : Thread nD τ) arg4 fullShare wg ∗ owns (c : Thread nD τ) arg5 fullShare wu ∗ owns (c : Thread nD τ) arg6 fullShare wd
        ∗ owns (c : Thread nD τ) arg8 fullShare o ∗ owns (c : Thread nD τ) bufH fullShare h
        ∗ (∃ d, owns (c : Thread nD τ) bufX fullShare d) ∗ semVal ((c : Thread nD τ), semX) 0 ∗ (hbX.view.loc (c : Thread nD τ) ↦{fullShare} fx)
        ∗ (iprop(owns (c : Thread nD τ) arg4 fullShare wg ∗ owns (c : Thread nD τ) arg5 fullShare wu ∗ owns (c : Thread nD τ) arg6 fullShare wd
            ∗ owns (c : Thread nD τ) arg8 fullShare (nextSum o h wg wu wd) ∗ owns (c : Thread nD τ) bufH fullShare h
            ∗ coming c fx ((rowsX (k0_off2 i) (k0_off2_inb i hc3)).view.read (Elt F) fx)) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 arg9 harg9 bufH (Memref.isWhole_whole _) bufX (Memref.isWhole_whole _) cc0_scratch2) K := by
  rw [cc0_ffn_eq_skeleton]; unfold cc0_ffn_skel
  unfold owns
  iintro ⟨⟨%f4, %hf4, H4⟩, ⟨%f5, %hf5, H5⟩, ⟨%f6, %hf6, H6⟩, ⟨%f8, %hf8, H8⟩, ⟨%f9, %hf9, H9⟩, ⟨%d10, %f10, -, H10⟩, Hs, Hx, Hk⟩
  subst hf4 hf5 hf6 hf8 hf9
  sl_exec (disch := first | sl_exact hc1 | sl_exact hc2 | sl_exact hc3 | sl_exact hc4 | sl_exact hc5)
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (nextSum_of (readAt_whole _ _ _) (readAt_whole _ _ _) (readAt_whole _ _ _) (readAt_whole _ _ _) (readAt_whole _ _ _))
  isplitl [H9]
  · iexists _; isplitr; swap; · iexact H9
    ipureintro; rfl
  unfold coming
  iexists _, _, _
  isplitr
  swap
  · isplitl [Hs]
    · iexact Hs
    · iexact Hx
  ipureintro
  exact read_whole bufX.view _ _ _ _

set_option maxHeartbeats 4000000 in
/-- The first point of all: the first tile's transfer starts and is waited for, and its first partial sum is stored. -/
theorem run_first (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x128 .f32) (harg9 : arg9.IsWhole)
    (hc1 : k0_cond1 i = 1#1) (hc2 : k0_cond2 i = 1#1) (hc3 : ¬k0_cond3 i = 1#1) (hc4 : ¬k0_cond4 i = 1#1) (hc5 : ¬k0_cond5 i = 1#1)
    (ng : Vec F S1x2048 .f32) (wg wu : Vec F S1x2048x512 .f32) (wd : Vec F S1x512x2048 .f32)
    (fx : Buf (Elt F) (hbX.view.loc (c : Thread nD τ))) (W : Waits sig Unit) (K : PUnit → sProp 𝕄) :
    iprop(owns (c : Thread nD τ) arg3 fullShare ng ∗ owns (c : Thread nD τ) arg4 fullShare wg ∗ owns (c : Thread nD τ) arg5 fullShare wu ∗ owns (c : Thread nD τ) arg6 fullShare wd
        ∗ (∃ d, owns (c : Thread nD τ) arg8 fullShare d) ∗ (∃ d, owns (c : Thread nD τ) bufH fullShare d)
        ∗ (∃ d, owns (c : Thread nD τ) bufX fullShare d) ∗ semVal ((c : Thread nD τ), semX) 0 ∗ (hbX.view.loc (c : Thread nD τ) ↦{fullShare} fx) ∗ owes (c : Thread nD τ) 0 W
        ∗ (iprop(owns (c : Thread nD τ) arg3 fullShare ng ∗ owns (c : Thread nD τ) arg4 fullShare wg ∗ owns (c : Thread nD τ) arg5 fullShare wu ∗ owns (c : Thread nD τ) arg6 fullShare wd
            ∗ owns (c : Thread nD τ) arg8 fullShare (firstSum ((rowsX ![0, 0] inb_S8192x2048_S1024x2048_0_0).view.read (Elt F) fx) ng wg wu wd) ∗ owns (c : Thread nD τ) bufH fullShare (normRows ((rowsX ![0, 0] inb_S8192x2048_S1024x2048_0_0).view.read (Elt F) fx) ng)
            ∗ (∃ d, owns (c : Thread nD τ) bufX fullShare d) ∗ semVal ((c : Thread nD τ), semX) 0 ∗ (hbX.view.loc (c : Thread nD τ) ↦{fullShare} fx)
            ∗ ∃ W, owes (c : Thread nD τ) 0 W) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 arg9 harg9 bufH (Memref.isWhole_whole _) bufX (Memref.isWhole_whole _) cc0_scratch2) K := by
  rw [cc0_ffn_eq_skeleton]; unfold cc0_ffn_skel
  rw [k0_part1_eq_skeleton]; unfold k0_part1_skel
  unfold owns
  iintro ⟨⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, Hs, Hx, Ho, Hk⟩
  subst hf3 hf4 hf5 hf6
  sl_exec (disch := first | sl_exact hc1 | sl_exact hc2 | sl_exact hc3 | sl_exact hc4 | sl_exact hc5)
  sl_step
  have ex : run_first.sl.v25 c fx = (rowsX ![0, 0] inb_S8192x2048_S1024x2048_0_0).view.read (Elt F) fx :=
    readCov_whole bufX.view _ _ _ _
  have eh : k0_pay5 (run_first.sl.v25 c fx) (arg3.view.readAt (Elt F) (Rect.unit ![0, 0] S1x2048.size inb_S1x2048_S1x2048_0_0).toLoadRect f3)
      = normRows ((rowsX ![0, 0] inb_S8192x2048_S1024x2048_0_0).view.read (Elt F) fx) (arg3.view.read (Elt F) f3) :=
    congr (congrArg k0_pay5 ex) (readAt_whole _ _ _)
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (firstSum_of ex ((readCov_whole bufH.view _ _ _ _).trans eh) (readAt_whole _ _ _) (readAt_whole _ _ _) (readAt_whole _ _ _))
  isplitl [H9]
  · iexists _; isplitr; swap; · iexact H9
    ipureintro
    exact (read_whole bufH.view _ _ _ _).trans eh
  isplitl [H10]
  · iexists _, _; isplitr; swap; · iexact H10
    ipureintro; rfl
  isplitl [Hs]; · iexact Hs
  isplitl [Hx]; · iexact Hx
  iexists _; iexact Ho

set_option maxHeartbeats 4000000 in
/-- The first point of a later tile: its transfer is waited for, and its first partial sum is stored. -/
theorem run_begin (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x128 .f32) (harg9 : arg9.IsWhole)
    (hc1 : ¬k0_cond1 i = 1#1) (hc2 : k0_cond2 i = 1#1) (hc3 : ¬k0_cond3 i = 1#1) (hc4 : ¬k0_cond4 i = 1#1) (hc5 : ¬k0_cond5 i = 1#1)
    (ng : Vec F S1x2048 .f32) (wg wu : Vec F S1x2048x512 .f32) (wd : Vec F S1x512x2048 .f32)
    (fx : Buf (Elt F) (hbX.view.loc (c : Thread nD τ))) (x : Vec F S1024x2048 .f32) (W : Waits sig Unit) (K : PUnit → sProp 𝕄) :
    iprop(owns (c : Thread nD τ) arg3 fullShare ng ∗ owns (c : Thread nD τ) arg4 fullShare wg ∗ owns (c : Thread nD τ) arg5 fullShare wu ∗ owns (c : Thread nD τ) arg6 fullShare wd
        ∗ (∃ d, owns (c : Thread nD τ) arg8 fullShare d) ∗ (∃ d, owns (c : Thread nD τ) bufH fullShare d)
        ∗ coming c fx x ∗ owes (c : Thread nD τ) 0 W
        ∗ (iprop(owns (c : Thread nD τ) arg3 fullShare ng ∗ owns (c : Thread nD τ) arg4 fullShare wg ∗ owns (c : Thread nD τ) arg5 fullShare wu ∗ owns (c : Thread nD τ) arg6 fullShare wd
            ∗ owns (c : Thread nD τ) arg8 fullShare (firstSum x ng wg wu wd) ∗ owns (c : Thread nD τ) bufH fullShare (normRows x ng)
            ∗ (∃ d, owns (c : Thread nD τ) bufX fullShare d) ∗ semVal ((c : Thread nD τ), semX) 0 ∗ (hbX.view.loc (c : Thread nD τ) ↦{fullShare} fx)
            ∗ ∃ W, owes (c : Thread nD τ) 0 W) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 arg9 harg9 bufH (Memref.isWhole_whole _) bufX (Memref.isWhole_whole _) cc0_scratch2) K := by
  rw [cc0_ffn_eq_skeleton]; unfold cc0_ffn_skel
  rw [k0_part1_eq_skeleton]; unfold k0_part1_skel
  unfold owns coming
  iintro ⟨⟨%f3, %hf3, H3⟩, ⟨%f4, %hf4, H4⟩, ⟨%f5, %hf5, H5⟩, ⟨%f6, %hf6, H6⟩, ⟨%d8, %f8, -, H8⟩, ⟨%d9, %f9, -, H9⟩, ⟨%off, %inb, %g, %hg, Hs, Hx⟩, Ho, Hk⟩
  subst hf3 hf4 hf5 hf6 hg
  sl_exec (disch := first | sl_exact hc1 | sl_exact hc2 | sl_exact hc3 | sl_exact hc4 | sl_exact hc5)
  sl_step
  have ex : bufX.view.readAt (Elt F) (Rect.unit ![0, 0] S1024x2048.size inb_S1024x2048_S1024x2048_0_0).toLoadRect g = bufX.view.read (Elt F) g :=
    readAt_whole bufX.view _ _
  have eh : k0_pay5 (bufX.view.readAt (Elt F) (Rect.unit ![0, 0] S1024x2048.size inb_S1024x2048_S1024x2048_0_0).toLoadRect g) (arg3.view.readAt (Elt F) (Rect.unit ![0, 0] S1x2048.size inb_S1x2048_S1x2048_0_0).toLoadRect f3)
      = normRows (bufX.view.read (Elt F) g) (arg3.view.read (Elt F) f3) :=
    congr (congrArg k0_pay5 ex) (readAt_whole _ _ _)
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (firstSum_of ex ((readCov_whole bufH.view _ _ _ _).trans eh) (readAt_whole _ _ _) (readAt_whole _ _ _) (readAt_whole _ _ _))
  isplitl [H9]
  · iexists _; isplitr; swap; · iexact H9
    ipureintro
    exact (read_whole bufH.view _ _ _ _).trans eh
  isplitl [Hs_dst]
  · iexists _, _; isplitr; swap; · iexact Hs_dst
    ipureintro; rfl
  isplitl [Hs]; · iexact Hs
  isplitl [Hx]; · iexact Hx
  iexists _; iexact Ho

set_option maxHeartbeats 4000000 in
/-- The last point of a tile: the last partial sum, and the reciprocal root mean square of its rows. -/
theorem run_last (c : Dev nD) (i : grid0.Coords)
    (arg3 : Memref sig .tc .vmem S1x2048 .f32) (harg3 : arg3.IsWhole)
    (arg4 : Memref sig .tc .vmem S1x2048x512 .f32) (harg4 : arg4.IsWhole)
    (arg5 : Memref sig .tc .vmem S1x2048x512 .f32) (harg5 : arg5.IsWhole)
    (arg6 : Memref sig .tc .vmem S1x512x2048 .f32) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x128 .f32) (harg9 : arg9.IsWhole)
    (hc1 : ¬k0_cond1 i = 1#1) (hc2 : ¬k0_cond2 i = 1#1) (hc3 : ¬k0_cond3 i = 1#1) (hc4 : ¬k0_cond4 i = 1#1) (hc5 : k0_cond5 i = 1#1)
    (wg wu : Vec F S1x2048x512 .f32) (wd : Vec F S1x512x2048 .f32) (o : Vec F S1024x2048 .f32) (h : Vec F S1024x2048 .bf16)
    (K : PUnit → sProp 𝕄) :
    iprop(owns (c : Thread nD τ) arg4 fullShare wg ∗ owns (c : Thread nD τ) arg5 fullShare wu ∗ owns (c : Thread nD τ) arg6 fullShare wd
        ∗ owns (c : Thread nD τ) arg8 fullShare o ∗ (∃ d, owns (c : Thread nD τ) arg9 fullShare d) ∗ owns (c : Thread nD τ) bufH fullShare h
        ∗ (iprop(owns (c : Thread nD τ) arg4 fullShare wg ∗ owns (c : Thread nD τ) arg5 fullShare wu ∗ owns (c : Thread nD τ) arg6 fullShare wd
            ∗ owns (c : Thread nD τ) arg8 fullShare (nextSum o h wg wu wd) ∗ owns (c : Thread nD τ) arg9 fullShare (lastScale o h wg wu wd) ∗ owns (c : Thread nD τ) bufH fullShare h) -∗ K ⟨⟩))
      ⊢ wp frame (wpE (defs₀ (F := F)) Variants.none c none) Set.univ (cc0_ffn i hbX (Memref.isWhole_whole _)
          arg3 harg3 arg4 harg4 arg5 harg5 arg6 harg6 arg7 harg7 arg8 harg8 arg9 harg9 bufH (Memref.isWhole_whole _) bufX (Memref.isWhole_whole _) cc0_scratch2) K := by
  rw [cc0_ffn_eq_skeleton]; unfold cc0_ffn_skel
  unfold owns
  iintro ⟨⟨%f4, %hf4, H4⟩, ⟨%f5, %hf5, H5⟩, ⟨%f6, %hf6, H6⟩, ⟨%f8, %hf8, H8⟩, ⟨%d7, %f7, -, H7⟩, ⟨%f9, %hf9, H9⟩, Hk⟩
  subst hf4 hf5 hf6 hf8 hf9
  sl_exec (disch := first | sl_exact hc1 | sl_exact hc2 | sl_exact hc3 | sl_exact hc4 | sl_exact hc5)
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro
    exact (read_whole _ _ _ _ _).trans (lastSum_of (readAt_whole _ _ _) (readAt_whole _ _ _) (readAt_whole _ _ _) (readAt_whole _ _ _) (readAt_whole _ _ _))
  isplitl [H7]
  · iexists _; isplitr; swap; · iexact H7
    ipureintro
    exact (read_whole _ _ _ _ _).trans (lastScale_of (readAt_whole _ _ _) (readAt_whole _ _ _) (readAt_whole _ _ _) (readAt_whole _ _ _) (readAt_whole _ _ _))
  · iexists _; isplitr; swap; · iexact H9
    ipureintro; rfl

end Cert.FfnFirstIdeal.Value

end
-- ==== Proof.FfnFirst.Frame.lean ====
/- The run of the first layer's feed-forward kernel: its body at every point of the grid, with what the scratch buffers and the
   transfer in flight carry from one point to the next, and what its result arrays hold in the end. Stated over any
   floats. -/
module

public import proofs.«01_k».proof.Proof.FfnFirst.Body
public import Idealize.ShloMosaic.Lib.Claim

@[expose] public section

set_option maxRecDepth 16384

noncomputable section

namespace Cert.FfnFirstIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFirstIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points -/

theorem lt88 (t : Fin cfg0.N) : t.val < 88 := Nat.lt_of_lt_of_eq t.isLt N_0

/-- The first transfer starts at the first point, -/
theorem at_first : ∀ t : Fin cfg0.N, k0_cond1 (grid0.coords t) = 1#1 ↔ t.val = 0 :=
  (by decide +kernel : ∀ t : Fin grid0.N, k0_cond1 (grid0.coords t) = 1#1 ↔ t.val = 0)
/-- a tile begins every eleven points, -/
theorem at_begin : ∀ t : Fin cfg0.N, k0_cond2 (grid0.coords t) = 1#1 ↔ t.val % 11 = 0 :=
  (by decide +kernel : ∀ t : Fin grid0.N, k0_cond2 (grid0.coords t) = 1#1 ↔ t.val % 11 = 0)
/-- its successor's transfer starts at the point after, -/
theorem at_start : ∀ t : Fin cfg0.N, k0_cond3 (grid0.coords t) = 1#1 ↔ (t.val % 11 = 1 ∧ t.val < 77) :=
  (by decide +kernel : ∀ t : Fin grid0.N, k0_cond3 (grid0.coords t) = 1#1 ↔ (t.val % 11 = 1 ∧ t.val < 77))
/-- the points between add to the sum, -/
theorem at_next : ∀ t : Fin cfg0.N, k0_cond4 (grid0.coords t) = 1#1 ↔ (t.val % 11 ≠ 0 ∧ t.val % 11 ≠ 10) :=
  (by decide +kernel : ∀ t : Fin grid0.N, k0_cond4 (grid0.coords t) = 1#1 ↔ (t.val % 11 ≠ 0 ∧ t.val % 11 ≠ 10))
/-- and so does the last of the eleven, which ends it. -/
theorem at_last : ∀ t : Fin cfg0.N, k0_cond5 (grid0.coords t) = 1#1 ↔ t.val % 11 = 10 :=
  (by decide +kernel : ∀ t : Fin grid0.N, k0_cond5 (grid0.coords t) = 1#1 ↔ t.val % 11 = 10)

/-- The rows the transfer of the next tile reads. -/
theorem off_start : ∀ t : Fin cfg0.N, t.val < 77 → k0_off2 (grid0.coords t) = ![1024 * min (t.val / 11 + 1) 7, 0] :=
  (by decide +kernel : ∀ t : Fin grid0.N, t.val < 77 → k0_off2 (grid0.coords t) = ![1024 * min (t.val / 11 + 1) 7, 0])

/-- The sum is stored at every point, -/
theorem idle5 : ∀ t : Fin cfg0.N, cfg0.idle 5 (grid0.coords t) = false :=
  (by decide +kernel : ∀ t : Fin grid0.N, idle0 5 (grid0.coords t) = false)
/-- and written back at the last of a tile's. -/
theorem flush5 : ∀ t : Fin cfg0.N, (cfg0.win 5).flush t = decide (t.val % 11 = 10) :=
  (by decide +kernel : ∀ t : Fin grid0.N, win0_5.flush t = decide (t.val % 11 = 10))

/-- The reciprocal root mean squares are stored at the last of a tile's points only, -/
theorem idle6 : ∀ t : Fin cfg0.N, cfg0.idle 6 (grid0.coords t) = decide (t.val % 11 ≠ 10) :=
  (by decide +kernel : ∀ t : Fin grid0.N, idle0 6 (grid0.coords t) = decide (t.val % 11 ≠ 10))
/-- and written back there. -/
theorem flush6 : ∀ t : Fin cfg0.N, (cfg0.win 6).flush t = decide (t.val % 11 = 10) :=
  (by decide +kernel : ∀ t : Fin grid0.N, win0_6.flush t = decide (t.val % 11 = 10))

/-- The point before, -/
def prev (t : Fin cfg0.N) : Fin cfg0.N := ⟨t.val - 1, Nat.lt_of_le_of_lt (Nat.sub_le _ _) t.isLt⟩
/-- and the point at which the tile `k` begins. -/
def begins (k : ℕ) : Fin cfg0.N := ⟨11 * min k 7, by rw [show cfg0.N = 88 from N_0]; omega⟩

theorem begins_eq (t : Fin cfg0.N) (h : t.val % 11 = 0) : begins (t.val / 11) = t :=
  Fin.ext (by have := lt88 t; show 11 * min (t.val / 11) 7 = t.val; omega)

/-! ## What the buffers hold -/

/-- The activations as the kernel finds them. -/
abbrev actX (c : Dev nD) : Buf (Elt F) (hbX.view.loc (c : Thread nD τ)) := V m c main_v0

theorem inb_tile (k : ℕ) : ∀ a : Fin 2, ![1024 * min k 7, 0] a + S1024x2048.size a ≤ S8192x2048.size a := fun a => by
  fin_cases a
  · show 1024 * min k 7 + 1024 ≤ 8192; omega
  · show 0 + 2048 ≤ 2048; omega

/-- The tile `k` of the activations. -/
def xT (c : Dev nD) (k : ℕ) : Vec F S1024x2048 .f32 :=
  (rowsX ![1024 * min k 7, 0] (inb_tile k)).view.read (Elt F) (actX m c)

theorem rows_eq (c : Dev nD) (k : ℕ) (off : Fin 2 → ℕ) (inb) (h : off = ![1024 * min k 7, 0]) :
    (rowsX off inb).view.read (Elt F) (actX m c) = xT m c k := by
  subst h; rfl

/-- Its normalised rows. -/
def hT (c : Dev nD) (k : ℕ) : Vec F S1024x2048 .bf16 := normRows (xT m c k) (iblk m c 0 (begins k))

/-- The partial sum after the point `n`. -/
def sumAt (c : Dev nD) : (n : ℕ) → n < cfg0.N → Vec F S1024x2048 .f32
  | 0, h => firstSum (xT m c 0) (iblk m c 0 ⟨0, h⟩) (iblk m c 1 ⟨0, h⟩) (iblk m c 2 ⟨0, h⟩) (iblk m c 3 ⟨0, h⟩)
  | n + 1, h =>
    if (n + 1) % 11 = 0 then
      firstSum (xT m c ((n + 1) / 11)) (iblk m c 0 ⟨n + 1, h⟩) (iblk m c 1 ⟨n + 1, h⟩) (iblk m c 2 ⟨n + 1, h⟩) (iblk m c 3 ⟨n + 1, h⟩)
    else
      nextSum (sumAt c n (Nat.lt_of_succ_lt h)) (hT m c ((n + 1) / 11)) (iblk m c 1 ⟨n + 1, h⟩) (iblk m c 2 ⟨n + 1, h⟩) (iblk m c 3 ⟨n + 1, h⟩)

theorem sumAt_begin (c : Dev nD) (t : Fin cfg0.N) (h : t.val % 11 = 0) :
    sumAt m c t.val t.isLt = firstSum (xT m c (t.val / 11)) (iblk m c 0 t) (iblk m c 1 t) (iblk m c 2 t) (iblk m c 3 t) := by
  obtain ⟨n, hn⟩ := t
  cases n with
  | zero => simp only [sumAt, Nat.zero_div]
  | succ n => exact if_pos h

theorem sumAt_next (c : Dev nD) (t : Fin cfg0.N) (h : t.val % 11 ≠ 0) :
    sumAt m c t.val t.isLt = nextSum (sumAt m c (prev t).val (prev t).isLt) (hT m c (t.val / 11)) (iblk m c 1 t) (iblk m c 2 t) (iblk m c 3 t) := by
  obtain ⟨n, hn⟩ := t
  cases n with
  | zero => exact absurd rfl h
  | succ n => exact if_neg h

/-- The reciprocal root mean squares of the sum a tile ends with, stored at its last point `t`. -/
def scaleAt (c : Dev nD) (t : Fin cfg0.N) : Vec F S1024x128 .f32 :=
  lastScale (sumAt m c (prev t).val (prev t).isLt) (hT m c (t.val / 11)) (iblk m c 1 t) (iblk m c 2 t) (iblk m c 3 t)

/-! ## The staging buffers -/

abbrev ms0_0 (t : Fin cfg0.N) : Memref sig .tc .vmem S1x2048 .f32 := win0_0.stage (cfg0.slots t 0)
abbrev ms0_1 (t : Fin cfg0.N) : Memref sig .tc .vmem S1x2048x512 .f32 := win0_1.stage (cfg0.slots t 1)
abbrev ms0_2 (t : Fin cfg0.N) : Memref sig .tc .vmem S1x2048x512 .f32 := win0_2.stage (cfg0.slots t 2)
abbrev ms0_3 (t : Fin cfg0.N) : Memref sig .tc .vmem S1x512x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1024x2048 .f32 := win0_5.stage (cfg0.slots t 5)
abbrev ms0_6 (t : Fin cfg0.N) : Memref sig .tc .vmem S1024x128 .f32 := win0_6.stage (cfg0.slots t 6)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)

/-! ## What is carried from point to point -/

/-- No transfer in flight: the buffer at some contents, the semaphore at zero, the activations whole. -/
def idleX (c : Dev nD) : sProp 𝕄 :=
  iprop((∃ d, owns (c : Thread nD τ) bufX fullShare d) ∗ semVal ((c : Thread nD τ), semX) 0 ∗ (hbX.view.loc (c : Thread nD τ) ↦{fullShare} actX m c))

/-- The tile in flight before the point `n`, if one is, -/
def flying (c : Dev nD) (n : ℕ) : sProp 𝕄 :=
  if n % 11 ≠ 1 ∧ n ≠ 0 ∧ n < 79 then coming c (actX m c) (xT m c ((n + 9) / 11)) else idleX m c
/-- the normalised rows, within a tile. -/
def rowsH (c : Dev nD) (n : ℕ) : sProp 𝕄 :=
  if n % 11 = 0 then iprop(∃ d, owns (c : Thread nD τ) bufH fullShare d) else owns (c : Thread nD τ) bufH fullShare (hT m c (n / 11))

theorem flying_yes (c : Dev nD) (n k : ℕ) (h : n % 11 ≠ 1 ∧ n ≠ 0 ∧ n < 79) (hk : (n + 9) / 11 = k) :
    flying m c n = coming c (actX m c) (xT m c k) := by subst hk; exact if_pos h
theorem flying_no (c : Dev nD) (n : ℕ) (h : ¬(n % 11 ≠ 1 ∧ n ≠ 0 ∧ n < 79)) : flying m c n = idleX m c := if_neg h
theorem rowsH_begin (c : Dev nD) (n : ℕ) (h : n % 11 = 0) : rowsH m c n = iprop(∃ d, owns (c : Thread nD τ) bufH fullShare d) := if_pos h
theorem rowsH_next (c : Dev nD) (n k : ℕ) (h : n % 11 ≠ 0) (hk : n / 11 = k) : rowsH m c n = owns (c : Thread nD τ) bufH fullShare (hT m c k) := by
  subst hk; exact if_neg h

/-- Within a tile the point leaves the flight as it found it, unless it starts one. -/
theorem flying_keep (c : Dev nD) (t : Fin cfg0.N) (h0 : t.val % 11 ≠ 0) (h1 : ¬(t.val % 11 = 1 ∧ t.val < 77)) :
    flying m c (t.val + 1) = flying m c t.val := by
  have := lt88 t
  by_cases h : t.val % 11 ≠ 1 ∧ t.val ≠ 0 ∧ t.val < 79
  · by_cases h2 : t.val < 77
    · rw [flying_yes m c t.val ((t.val + 9) / 11) h rfl, flying_yes m c (t.val + 1) ((t.val + 9) / 11) (by omega) (by omega)]
    · exfalso; omega
  · rw [flying_no m c _ h, flying_no m c _ (by omega)]

/-- What is carried before the point `n`. -/
def carried (c : Dev nD) (n : ℕ) : sProp 𝕄 := iprop(rowsH m c n ∗ flying m c n ∗ (∃ r, prngReg c r))

/-- The arrays as the kernel finds them, each input's block left in place, the partial sum in the first
    result's buffer, a tile's reciprocal root mean squares in the second's, and the scratch as `carried` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sumAt m c t.val t.isLt
    | ⟨6, _⟩ => scaleAt m c t
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = sumAt m c t.val t.isLt := by dsimp only [dats]
theorem after0_6 (c : Dev nD) (t : Fin cfg0.N) : (dats m 0 c).after 6 t = scaleAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Within a tile the result's buffer holds the partial sum of the point before. -/
theorem before0_5 (c : Dev nD) (t : Fin cfg0.N) (h : t.val % 11 ≠ 0) (d) :
    (dats m 0 c).before 5 t d = sumAt m c (prev t).val (prev t).isLt := by
  have hp : (prev t).val % 11 ≠ 10 := by show (t.val - 1) % 11 ≠ 10; omega
  rw [(dats m 0 c).before_of_pos 5 t (by omega) ((cfg0.win 5).fetch_out rfl t) d]
  have e : (⟨t.val - 1, Nat.lt_of_le_of_lt (Nat.sub_le _ _) t.isLt⟩ : Fin cfg0.N) = prev t := rfl
  rw [e, flush5, decide_eq_false hp]
  show (dats m 0 c).left 5 (prev t) d = _
  unfold Dat.left
  rw [show cfg0.idle 5 (cfg0.grid.coords (prev t)) = false from idle5 (prev t)]
  show (dats m 0 c).kept 5 (prev t) d = _
  unfold Dat.kept
  rw [Pipeline.fill_of_clip_none 5 _ (fun _ => rfl) d ((dats m 0 c).after 5 _), Window.fill_cut, after0_5]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (sumAt m c t.val t.isLt) := by
  unfold Dat.leavesExact; rw [show cfg0.idle 5 (grid0.coords t) = false from idle5 t, after0_5]
theorem leaves0_6 (c : Dev nD) (t : Fin cfg0.N) (h : t.val % 11 = 10) : (dats m 0 c).leavesExact 6 t = owns (c : Thread nD τ) (ms0_6 t) fullShare (scaleAt m c t) := by
  unfold Dat.leavesExact; rw [show cfg0.idle 6 (grid0.coords t) = false from (idle6 t).trans (decide_eq_false (not_not.mpr h)), after0_6]
/-- At the other points the second result's buffer is handed back as it was found. -/
theorem leaves0_6_idle (c : Dev nD) (t : Fin cfg0.N) (h : t.val % 11 ≠ 10) :
    (dats m 0 c).leavesExact 6 t = iprop(∃ d, owns (c : Thread nD τ) (ms0_6 t) fullShare ((dats m 0 c).before 6 t d)) :=
  (dats m 0 c).leavesExact_idle 6 t ((idle6 t).trans (decide_eq_true h)) ((flush6 t).trans (decide_eq_false h))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = carried m c (t.val + 1) from rfl, show (dats m 0 c).Φ t.castSucc = carried m c t.val from rfl]
  rw [leaves0_0, leaves0_1, leaves0_2, leaves0_3, leaves0_4, leaves0_5]
  unfold carried
  have hN := lt88 t
  by_cases h0 : t.val % 11 = 0
  · have hc2 := (at_begin t).mpr h0
    have hc3 : ¬k0_cond3 (grid0.coords t) = 1#1 := fun h => absurd ((at_start t).mp h) (by omega)
    have hc4 : ¬k0_cond4 (grid0.coords t) = 1#1 := fun h => absurd ((at_next t).mp h) (by omega)
    have hc5 : ¬k0_cond5 (grid0.coords t) = 1#1 := fun h => absurd ((at_last t).mp h) (by omega)
    rw [leaves0_6_idle m c t (by omega), sumAt_begin m c t h0, rowsH_begin m c _ h0, rowsH_next m c (t.val + 1) (t.val / 11) (by omega) (by omega),
      flying_no m c (t.val + 1) (by omega)]
    unfold hT
    rw [begins_eq t h0]
    unfold Dat.owesAt Pipeline.owesWithin
    rw [show (dats m 0 c).owed t.castSucc = 0 from rfl]
    by_cases hz : t.val = 0
    · have hc1 := (at_first t).mpr hz
      rw [flying_no m c t.val (by omega)]
      have er : (rowsX ![0, 0] inb_S8192x2048_S1024x2048_0_0).view.read (Elt F) (actX m c) = xT m c (t.val / 11) :=
        rows_eq m c _ _ _ (by rw [hz]; rfl)
      rw [← er]
      unfold idleX
      iintro ⟨⟨HH, ⟨HX, Hs, Hx⟩, Hg⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (run_first c (grid0.coords t) _ (hs0_0 t) _ (hs0_1 t) _ (hs0_2 t) _ (hs0_3 t) _ (hs0_4 t) _ (hs0_5 t) _ (hs0_6 t) hc1 hc2 hc3 hc4 hc5 _ _ _ _ (actX m c) W _)
      isplitl [H0]; · iexact H0
      isplitl [H1]; · iexact H1
      isplitl [H2]; · iexact H2
      isplitl [H3]; · iexact H3
      isplitl [H5]; · iexists _; iexact H5
      isplitl [HH]; · iexact HH
      isplitl [HX]; · iexact HX
      isplitl [Hs]; · iexact Hs
      isplitl [Hx]; · iexact Hx
      isplitl [HW]; · iexact HW
      iintro ⟨H0, H1, H2, H3, H5, HH, HX, Hs, Hx, ⟨%W', HW⟩⟩
      isplitl [HH HX Hs Hx Hg]
      · isplitl [HH]; · iexact HH
        isplitl [HX Hs Hx]
        · isplitl [HX]; · iexact HX
          isplitl [Hs]; · iexact Hs
          iexact Hx
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexists _; iexact H6
    · have hc1 : ¬k0_cond1 (grid0.coords t) = 1#1 := fun h => absurd ((at_first t).mp h) hz
      rw [flying_yes m c t.val (t.val / 11) (by omega) (by omega)]
      unfold idleX
      iintro ⟨⟨HH, HX, Hg⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (run_begin c (grid0.coords t) _ (hs0_0 t) _ (hs0_1 t) _ (hs0_2 t) _ (hs0_3 t) _ (hs0_4 t) _ (hs0_5 t) _ (hs0_6 t) hc1 hc2 hc3 hc4 hc5 _ _ _ _ (actX m c) _ W _)
      isplitl [H0]; · iexact H0
      isplitl [H1]; · iexact H1
      isplitl [H2]; · iexact H2
      isplitl [H3]; · iexact H3
      isplitl [H5]; · iexists _; iexact H5
      isplitl [HH]; · iexact HH
      isplitl [HX]; · iexact HX
      isplitl [HW]; · iexact HW
      iintro ⟨H0, H1, H2, H3, H5, HH, HX, Hs, Hx, ⟨%W', HW⟩⟩
      isplitl [HH HX Hs Hx Hg]
      · isplitl [HH]; · iexact HH
        isplitl [HX Hs Hx]
        · isplitl [HX]; · iexact HX
          isplitl [Hs]; · iexact Hs
          iexact Hx
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexists _; iexact H6
  · have hc1 : ¬k0_cond1 (grid0.coords t) = 1#1 := fun h => absurd ((at_first t).mp h) (by omega)
    have hc2 : ¬k0_cond2 (grid0.coords t) = 1#1 := fun h => absurd ((at_begin t).mp h) h0
    simp only [before0_5 m c t h0]
    rw [rowsH_next m c t.val (t.val / 11) h0 rfl]
    by_cases h5 : t.val % 11 = 10
    · have hc3 : ¬k0_cond3 (grid0.coords t) = 1#1 := fun h => absurd ((at_start t).mp h) (by omega)
      have hc4 : ¬k0_cond4 (grid0.coords t) = 1#1 := fun h => ((at_next t).mp h).2 h5
      have hc5 := (at_last t).mpr h5
      rw [leaves0_6 m c t h5, sumAt_next m c t h0, rowsH_begin m c (t.val + 1) (by omega), flying_keep m c t h0 (by omega)]
      iintro ⟨⟨HH, HX, Hg⟩, HW, ⟨%d0, H0⟩, ⟨%d1, H1⟩, ⟨%d2, H2⟩, ⟨%d3, H3⟩, ⟨%d4, H4⟩, ⟨%d5, H5⟩, ⟨%d6, H6⟩⟩
      iapply (run_last c (grid0.coords t) _ (hs0_0 t) _ (hs0_1 t) _ (hs0_2 t) _ (hs0_3 t) _ (hs0_4 t) _ (hs0_5 t) _ (hs0_6 t) hc1 hc2 hc3 hc4 hc5 _ _ _ _ _ _)
      isplitl [H1]; · iexact H1
      isplitl [H2]; · iexact H2
      isplitl [H3]; · iexact H3
      isplitl [H5]; · iexact H5
      isplitl [H6]; · iexists _; iexact H6
      isplitl [HH]; · iexact HH
      iintro ⟨H1, H2, H3, H5, H6, HH⟩
      isplitl [HH HX Hg]
      · isplitl [HH]; · iexists _; iexact HH
        isplitl [HX]; · iexact HX
        iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      iexact H6
    · have hc5 : ¬k0_cond5 (grid0.coords t) = 1#1 := fun h => absurd ((at_last t).mp h) h5
      have hc4 := (at_next t).mpr ⟨h0, h5⟩
      rw [leaves0_6_idle m c t h5, sumAt_next m c t h0, rowsH_next m c (t.val + 1) (t.val / 11) (by omega) (by omega)]
      by_cases h3 : t.val % 11 = 1 ∧ t.val < 77
      · have hc3 := (at_start t).mpr h3
        have er := rows_eq m c (t.val / 11 + 1) (k0_off2 (grid0.coords t)) (k0_off2_inb (grid0.coords t) hc3) (off_start t h3.2)
        rw [flying_no m c t.val (by omega), flying_yes m c (t.val + 1) (t.val / 11 + 1) (by omega) (by omega), ← er]
        unfold idleX
        iintro ⟨⟨HH, ⟨HX, Hs, Hx⟩, Hg⟩, HW, ⟨%d0, H0⟩, ⟨%d1, H1⟩, ⟨%d2, H2⟩, ⟨%d3, H3⟩, ⟨%d4, H4⟩, ⟨%d5, H5⟩, ⟨%d6, H6⟩⟩
        iapply (run_start c (grid0.coords t) _ (hs0_0 t) _ (hs0_1 t) _ (hs0_2 t) _ (hs0_3 t) _ (hs0_4 t) _ (hs0_5 t) _ (hs0_6 t) hc1 hc2 hc3 hc4 hc5 _ _ _ _ _ (actX m c) _)
        isplitl [H1]; · iexact H1
        isplitl [H2]; · iexact H2
        isplitl [H3]; · iexact H3
        isplitl [H5]; · iexact H5
        isplitl [HH]; · iexact HH
        isplitl [HX]; · iexact HX
        isplitl [Hs]; · iexact Hs
        isplitl [Hx]; · iexact Hx
        iintro ⟨H1, H2, H3, H5, HH, HX⟩
        isplitl [HH HX Hg]
        · isplitl [HH]; · iexact HH
          isplitl [HX]; · iexact HX
          iexact Hg
        isplitl [HW]; · iexact HW
        isplitl [H0]; · iexact H0
        isplitl [H1]; · iexact H1
        isplitl [H2]; · iexact H2
        isplitl [H3]; · iexact H3
        isplitl [H4]; · iexact H4
        isplitl [H5]; · iexact H5
        iexists _; iexact H6
      · have hc3 : ¬k0_cond3 (grid0.coords t) = 1#1 := fun h => absurd ((at_start t).mp h) h3
        rw [flying_keep m c t h0 h3]
        iintro ⟨⟨HH, HX, Hg⟩, HW, ⟨%d0, H0⟩, ⟨%d1, H1⟩, ⟨%d2, H2⟩, ⟨%d3, H3⟩, ⟨%d4, H4⟩, ⟨%d5, H5⟩, ⟨%d6, H6⟩⟩
        iapply (run_next c (grid0.coords t) _ (hs0_0 t) _ (hs0_1 t) _ (hs0_2 t) _ (hs0_3 t) _ (hs0_4 t) _ (hs0_5 t) _ (hs0_6 t) hc1 hc2 hc3 hc4 hc5 _ _ _ _ _ _)
        isplitl [H1]; · iexact H1
        isplitl [H2]; · iexact H2
        isplitl [H3]; · iexact H3
        isplitl [H5]; · iexact H5
        isplitl [HH]; · iexact HH
        iintro ⟨H1, H2, H3, H5, HH⟩
        isplitl [HH HX Hg]
        · isplitl [HH]; · iexact HH
          isplitl [HX]; · iexact HX
          iexact Hg
        isplitl [HW]; · iexact HW
        isplitl [H0]; · iexact H0
        isplitl [H1]; · iexact H1
        isplitl [H2]; · iexact H2
        isplitl [H3]; · iexact H3
        isplitl [H4]; · iexact H4
        isplitl [H5]; · iexact H5
        iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The transfers' semaphore and the array they read. -/
abbrev osem0 : Fin 1 → SemLoc sig := fun _ => SemLoc.dma 12
theorem ownSemFacts0 : Pipeline.OwnSemFacts spec0 osem0 := by decide
def H0 : Finset (Ref sig .tc) := {main_v0}
theorem H0_sub : H0 ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = semVal ((c : Thread nD τ), semX) 0 := by
  rw [Pipeline.ownSems0_eq_of_list c osem0 [0] (by decide) (by decide)]; rfl

theorem hbmPts_eq (c : Dev nD) :
    (bigSep H0 (fun b => ((c : Thread nD τ).loc b) ↦{fullShare} V m c b) : sProp 𝕄)
      = iprop(hbX.view.loc (c : Thread nD τ) ↦{fullShare} actX m c) := by
  rw [BI.bigSep_eq_bigSepL_of_eq [main_v0] (by decide) (by decide)]; rfl

/-- The invariant of the launch, piece by piece. -/
theorem phi_eq (c : Dev nD) :
    (Pipeline.ΦD osem0 spec0 H0 (V m) c : sProp 𝕄)
      = iprop(iprop((∃ d, owns (c : Thread nD τ) bufH fullShare d) ∗ (∃ d, owns (c : Thread nD τ) bufX fullShare d))
          ∗ (∃ r, prngReg c r) ∗ semVal ((c : Thread nD τ), semX) 0 ∗ (hbX.view.loc (c : Thread nD τ) ↦{fullShare} actX m c)) := by
  rw [Pipeline.ΦD_eq, scopedRest0_eq, ownSems_eq, hbmPts_eq]
  simp only [bufH, bufX, owns_whole]; try rfl

theorem hin (c : Dev nD) : Pipeline.ΦD osem0 spec0 H0 (V m) c ⊢ (dats m 0 c).Φ 0 := by
  rw [show (dats m 0 c).Φ 0 = carried m c 0 from rfl, phi_eq]
  unfold carried
  rw [rowsH_begin m c 0 rfl, flying_no m c 0 (by omega)]
  unfold idleX
  iintro ⟨⟨HH, HX⟩, Hg, Hs, Hx⟩
  isplitl [HH]; · iexact HH
  isplitl [HX Hs Hx]
  · isplitl [HX]; · iexact HX
    isplitl [Hs]; · iexact Hs
    iexact Hx
  iexact Hg

theorem hout (c : Dev nD) : (dats m 0 c).Φ (Fin.last cfg0.N) ⊢ Pipeline.ΦD osem0 spec0 H0 (V m) c := by
  rw [show (dats m 0 c).Φ (Fin.last cfg0.N) = carried m c cfg0.N from rfl, show cfg0.N = 88 from N_0, phi_eq]
  unfold carried
  rw [rowsH_begin m c 88 rfl, flying_no m c 88 (by omega)]
  unfold idleX
  iintro ⟨HH, ⟨HX, Hs, Hx⟩, Hg⟩
  isplitl [HH HX]
  · isplitl [HH]; · iexact HH
    iexact HX
  isplitl [Hg]; · iexact Hg
  isplitl [Hs]; · iexact Hs
  iexact Hx

/-- The host's reshapes and slice run before the kernel. -/
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The run -/

theorem run_main_quiescent : θ_run defs (onTc (τ := τ) (main (F := F))) (s₀ m ρ)
    (fun r => Pipeline.FramePost cfgs (dats m) 0 (V m) r ∧ r.2.sem = fun _ => 0) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_upto m Variants.none) (hA := A_eq m) (hin := hin m) (hout := hout m)
    (Q' := _) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c)⟩, h.2⟩)
    (run_main_quiescent m ρ)

end Cert.FfnFirstIdeal.Value

end
-- ==== Proof.FfnFirst.Values.lean ====
/- What the first layer's feed-forward kernel's blocks hold over the extended reals: rows of the plain functions. -/
module

public import proofs.«01_k».proof.Proof.FfnFirst.Block
public import proofs.«01_k».proof.Proof.Ffn.Math

@[expose] public section

set_option maxRecDepth 16384

noncomputable section

namespace Cert.FfnFirstIdeal.Value

open Idealize.ShloMosaic Idealize.ShloMosaic.TcCoe Idealize.ShloMosaic.Tactic
open Cert.FfnFirstIdeal.Gen Cert.SguMath Cert.FfnMath

/-- The normalised rows at an element. -/
theorem normRows_apply (x : Vec Ideal S1024x2048 .f32) (g : Vec Ideal S1x2048 .f32) (j : S1024x2048.Idx) :
    normRows x g j = rmsRow (fun k => x (ix2 (j 0) k)) (fun k => g (ix2 0 k)) (j 1) := by
  unfold normRows k0_pay5
  pointwise
  rw [show x j = x (ix2 (j 0) (j 1)) from congrArg x (eq_ix2 j)]
  rfl

/-- A further partial sum at an element. -/
theorem nextSum_apply (o : Vec Ideal S1024x2048 .f32) (h : Vec Ideal S1024x2048 .bf16) (wg wu : Vec Ideal S1x2048x512 .f32)
    (wd : Vec Ideal S1x512x2048 .f32) (y : S1024x2048.Idx) : nextSum o h wg wu wd y
      = o y + ∑ j : Fin 512, feature (fun k => h (ix2 (y 0) k)) (fun k => wg (ix3 0 k j)) (fun k => wu (ix3 0 k j)) * wd (ix3 0 j (y 1)) := by
  unfold nextSum k0_pay2
  pointwise
  rfl

/-- The first partial sum at an element. -/
theorem firstSum_apply (x : Vec Ideal S1024x2048 .f32) (g : Vec Ideal S1x2048 .f32) (wg wu : Vec Ideal S1x2048x512 .f32)
    (wd : Vec Ideal S1x512x2048 .f32) (y : S1024x2048.Idx) : firstSum x g wg wu wd y
      = x y + ∑ j : Fin 512, feature (rmsRow (fun k => x (ix2 (y 0) k)) (fun k => g (ix2 0 k))) (fun k => wg (ix3 0 k j)) (fun k => wu (ix3 0 k j))
          * wd (ix3 0 j (y 1)) := by
  have hn := normRows_apply x g
  have ht : firstSum x g wg wu wd = nextSum x (normRows x g) wg wu wd := by
    unfold firstSum nextSum k0_pay1 k0_pay2 k0_pay7 k0_pay8 k0_pay6
    rw [show shapeCast S1024x2048 x shapeCasts_S1024x2048_S1024x2048 = x from shapeCast_self _ _]
  rw [ht, nextSum_apply]
  refine congrArg (x y + ·) (Finset.sum_congr rfl fun j _ => congrArg (fun r => feature r _ _ * _) (funext fun k => hn _))

/-- The reciprocal root mean squares at an element. -/
theorem lastScale_apply (o : Vec Ideal S1024x2048 .f32) (h : Vec Ideal S1024x2048 .bf16) (wg wu : Vec Ideal S1x2048x512 .f32)
    (wd : Vec Ideal S1x512x2048 .f32) (y : S1024x128.Idx) :
    lastScale o h wg wu wd y = rowScale (fun k => nextSum o h wg wu wd (ix2 (y 0) k)) := by
  have e : k0_pay3 o wg wu h wd = nextSum o h wg wu wd := rfl
  unfold lastScale k0_pay4
  rw [e]
  generalize nextSum o h wg wu wd = z
  pointwise
  rfl

end Cert.FfnFirstIdeal.Value

end
-- ==== Proof.FfnFirst.RefValues.lean ====
/- What the first layer's feed-forward reference computes over the extended reals, at an element. -/
module

public import proofs.«01_k».proof.Proof.Gen.FfnFirstRefIdeal.Read
public import proofs.«01_k».proof.Proof.Ffn.Math

@[expose] public section

set_option maxRecDepth 16384

noncomputable section

namespace Cert.FfnFirstRefIdeal.Value

open Idealize.ShloMosaic Idealize.ShloMosaic.TcCoe Idealize.ShloMosaic.Tactic
open Cert.FfnFirstRefIdeal Cert.FfnFirstRefIdeal.Gen Cert.FfnFirstRefIdeal.Read Cert.SguMath Cert.FfnMath

variable (x0 : (⟨S4x2048x2048, .f32⟩ : BufTy).Contents (Elt Ideal)) (x1 : (⟨S2x2048, .f32⟩ : BufTy).Contents (Elt Ideal))
  (x2 x3 : (⟨S2x2048x5632, .f32⟩ : BufTy).Contents (Elt Ideal)) (x4 : (⟨S2x5632x2048, .f32⟩ : BufTy).Contents (Elt Ideal))
  (x5 : (⟨S2048, .f32⟩ : BufTy).Contents (Elt Ideal))

/-- The contribution of the hidden feature `k` of a normalised row `h` to column `n`. -/
def contrib (h : Fin 2048 → EReal) (k : Fin 5632) (n : Fin 2048) : EReal :=
  feature h (fun l => x2 (ix3 0 l k)) (fun l => x3 (ix3 0 l k)) * x4 (ix3 0 k n)

/-- The normalised rows. -/
theorem normed (i : S4x2048x2048.Idx) :
    val_main_v14 (F := Ideal) x0 x1 i = rmsRow (fun k => x0 (ix3 (i 0) (i 1) k)) (fun k => x1 (ix2 0 k)) (i 2) := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rw [show x0 i = x0 (ix3 (i 0) (i 1) (i 2)) from congrArg x0 (eq_ix3 i)]
  rfl

/-- The hidden features. -/
theorem featured (i : S4x2048x5632.Idx) :
    val_main_v24 (F := Ideal) x0 x1 x2 x3 i = feature (rmsRow (fun k => x0 (ix3 (i 0) (i 1) k)) (fun k => x1 (ix2 0 k)))
      (fun l => x2 (ix3 0 l (i 2))) (fun l => x3 (ix3 0 l (i 2))) := by
  have hn := normed x0 x1
  unfold val_main_v24 val_main_v23 val_main_v22 val_main_call0_v5 val_main_call0_v4 val_main_call0_v3 val_main_call0_v2 val_main_call0_v1 val_main_call0_v0 val_main_call0_cst val_main_call0_cst_0 val_main_v21 val_main_v18 val_main_v17 val_main_v16 val_main_v15
  generalize val_main_v14 (F := Ideal) x0 x1 = h at hn
  pointwise
  unfold feature silu Ideal.logistic
  have hs : ∀ (w : Fin 2048 → EReal), (∑ k, h (ix3 (i 0) (i 1) k) * w k)
      = ∑ k, rmsRow (fun k => x0 (ix3 (i 0) (i 1) k)) (fun k => x1 (ix2 0 k)) k * w k :=
    fun w => Finset.sum_congr rfl fun k _ => congrArg (· * w k) (hn _)
  rw [hs, hs]

/-- The rows with their feed-forward added. -/
theorem summed (i : S4x2048x2048.Idx) :
    val_main_v26 (F := Ideal) x0 x1 x2 x3 x4 i = feedRow (fun k => x0 (ix3 (i 0) (i 1) k))
      (contrib x2 x3 x4 (rmsRow (fun k => x0 (ix3 (i 0) (i 1) k)) (fun k => x1 (ix2 0 k)))) (i 2) := by
  have hf := featured x0 x1 x2 x3
  unfold val_main_v26 val_main_v25 val_main_v20 val_main_v19
  generalize val_main_v24 (F := Ideal) x0 x1 x2 x3 = h at hf
  pointwise
  unfold feedRow contrib
  rw [show x0 i = x0 (ix3 (i 0) (i 1) (i 2)) from congrArg x0 (eq_ix3 i)]
  exact congrArg (_ + ·) (Finset.sum_congr rfl fun k _ => congrArg (· * _) (hf _))

/-- The first result, flat. -/
theorem result (i : S8192x2048.Idx) :
    val_main_v35 (F := Ideal) x0 x1 x2 x3 x4 i = feedRow (fun k => x0 (ix3 (batchOf (i 0)) (placeOf (i 0)) k))
      (contrib x2 x3 x4 (rmsRow (fun k => x0 (ix3 (batchOf (i 0)) (placeOf (i 0)) k)) (fun k => x1 (ix2 0 k)))) (i 1) := by
  have hs := summed x0 x1 x2 x3 x4
  unfold val_main_v35
  generalize val_main_v26 (F := Ideal) x0 x1 x2 x3 x4 = z at hs
  pointwise
  simp only [hs]
  rfl

/-- The second result: each row's reciprocal root mean square. -/
theorem scales (i : S8192x128.Idx) :
    val_main_v37 (F := Ideal) x0 x1 x2 x3 x4 i = rowScale (feedRow (fun k => x0 (ix3 (batchOf (i 0)) (placeOf (i 0)) k))
      (contrib x2 x3 x4 (rmsRow (fun k => x0 (ix3 (batchOf (i 0)) (placeOf (i 0)) k)) (fun k => x1 (ix2 0 k))))) := by
  have hs := summed x0 x1 x2 x3 x4
  unfold val_main_v37 val_main_v36 val_main_v34 val_main_v33 val_main_v32 val_main_v31 val_main_v30 val_main_v29 val_main_v28 val_main_v27 val_main_cst_2 val_main_cst_3 val_main_cst_4
  generalize val_main_v26 (F := Ideal) x0 x1 x2 x3 x4 = z at hs
  pointwise
  simp only [hs]
  rfl

end Cert.FfnFirstRefIdeal.Value

end
-- ==== Proof.FfnFirst.Arrays.lean ====
/- What the first layer's feed-forward kernel's blocks are read from, and what its result arrays hold in the end, over the extended
   reals. -/
module

public import proofs.«01_k».proof.Proof.FfnFirst.Frame
public import proofs.«01_k».proof.Proof.FfnFirst.Values
public import proofs.«01_k».proof.Proof.FfnFirst.RefValues
public import Idealize.ShloMosaic.Lib.StableHlo.ReadAt
public import Idealize.ShloMosaic.Lib.Pipeline.ValueKit

@[expose] public section

set_option maxRecDepth 16384

noncomputable section

namespace Cert.FfnFirstIdeal.Value

open Idealize.ShloMosaic Idealize.ShloMosaic.TcCoe Idealize.ShloMosaic.Tactic
open Idealize.ShloMosaic.Pipeline (Dat Cfg Window)
open Cert.FfnFirstIdeal.Gen Cert.SguMath Cert.FfnMath
open Cert.FfnFirstRefIdeal.Value (contrib)

variable (m : (ℓ : Loc nD τ sig) → Buf (Elt Ideal) ℓ)

/-! ## The arrays the region finds -/

theorem flat_at (c : Dev nD) (j : S8192x2048.Idx) :
    V m c main_v0 j = m ((c : Thread nD τ).loc main_arg0) (ix3 (batchOf (j 0)) (placeOf (j 0)) (j 1)) := by
  unfold V
  after_reads_at
  rfl
theorem gain_at (c : Dev nD) (j : S1x2048.Idx) :
    V m c main_v3 j = m ((c : Thread nD τ).loc main_arg1) (ix2 0 (j 1)) := by
  unfold V
  after_reads_at
/-! ## The windows' blocks -/

theorem idx0 : ∀ t : Fin cfg0.N, win0_0.index t = ![0, 0] :=
  (by decide +kernel : ∀ t : Fin grid0.N, win0_0.index t = ![0, 0])
theorem idx1 : ∀ t : Fin cfg0.N, win0_1.index t = ![0, 0, t.val % 11] :=
  (by decide +kernel : ∀ t : Fin grid0.N, win0_1.index t = ![0, 0, t.val % 11])
theorem idx2 : ∀ t : Fin cfg0.N, win0_2.index t = ![0, 0, t.val % 11] :=
  (by decide +kernel : ∀ t : Fin grid0.N, win0_2.index t = ![0, 0, t.val % 11])
theorem idx3 : ∀ t : Fin cfg0.N, win0_3.index t = ![0, t.val % 11, 0] :=
  (by decide +kernel : ∀ t : Fin grid0.N, win0_3.index t = ![0, t.val % 11, 0])
theorem idx5 : ∀ t : Fin cfg0.N, win0_5.index t = ![t.val / 11, 0] :=
  (by decide +kernel : ∀ t : Fin grid0.N, win0_5.index t = ![t.val / 11, 0])
theorem idx6 : ∀ t : Fin cfg0.N, win0_6.index t = ![t.val / 11, 0] :=
  (by decide +kernel : ∀ t : Fin grid0.N, win0_6.index t = ![t.val / 11, 0])

theorem g_at (c : Dev nD) (t : Fin cfg0.N) (k : Fin 2048) : iblk m c 0 t (ix2 0 k)
    = m ((c : Thread nD τ).loc main_arg1) (ix2 0 k) := by
  refine Eq.trans ?_ (gain_at m c (ix2 0 k))
  unfold iblk
  blk_ext [idx0 t]

theorem wg_at (c : Dev nD) (t : Fin cfg0.N) (k : Fin 2048) (j : Fin 512) : iblk m c 1 t (ix3 0 k j)
    = m ((c : Thread nD τ).loc main_arg2) (ix3 0 k (featureOf (t.val % 11) j)) := by
  refine Eq.trans ?_ (congrFun (V_main_arg2 m c) _)
  have h : min (t.val % 11) 10 = t.val % 11 := by omega
  unfold iblk
  blk_ext [idx1 t, featureOf, h]

theorem wu_at (c : Dev nD) (t : Fin cfg0.N) (k : Fin 2048) (j : Fin 512) : iblk m c 2 t (ix3 0 k j)
    = m ((c : Thread nD τ).loc main_arg3) (ix3 0 k (featureOf (t.val % 11) j)) := by
  refine Eq.trans ?_ (congrFun (V_main_arg3 m c) _)
  have h : min (t.val % 11) 10 = t.val % 11 := by omega
  unfold iblk
  blk_ext [idx2 t, featureOf, h]

theorem wd_at (c : Dev nD) (t : Fin cfg0.N) (j : Fin 512) (n : Fin 2048) : iblk m c 3 t (ix3 0 j n)
    = m ((c : Thread nD τ).loc main_arg4) (ix3 0 (featureOf (t.val % 11) j) n) := by
  refine Eq.trans ?_ (congrFun (V_main_arg4 m c) _)
  have h : min (t.val % 11) 10 = t.val % 11 := by omega
  unfold iblk
  blk_ext [idx3 t, featureOf, h]

/-! ## The tiles -/

/-- Row `r` of tile `k` of the activations. -/
def xRow (c : Dev nD) (k : ℕ) (r : Fin 1024) (l : Fin 2048) : EReal :=
  m ((c : Thread nD τ).loc main_arg0) (ix3 (batchOf (flatRow k r)) (placeOf (flatRow k r)) l)

theorem x_at (c : Dev nD) (k : ℕ) (r : Fin 1024) (l : Fin 2048) : xT m c k (ix2 r l) = xRow m c k r l := by
  refine Eq.trans ?_ (flat_at m c (ix2 (flatRow k r) l))
  unfold xT
  refine congrArg (V m c main_v0) (funext fun a => ?_)
  fin_cases a
  · exact Fin.ext (by show 1024 * min k 7 + 1 * r.val = 1024 * min k 7 + r.val; omega)
  · exact Fin.ext (by show 0 + 1 * l.val = l.val; omega)

/-- Its normalised row. -/
def hRow (c : Dev nD) (k : ℕ) (r : Fin 1024) : Fin 2048 → EReal :=
  rmsRow (xRow m c k r) (fun l => m ((c : Thread nD τ).loc main_arg1) (ix2 0 l))

theorem h_at (c : Dev nD) (k : ℕ) (r : Fin 1024) (l : Fin 2048) : hT m c k (ix2 r l) = hRow m c k r l := by
  unfold hT
  rw [normRows_apply]
  have hx : (fun l => xT m c k (ix2 r l)) = _ := funext fun l => x_at m c k r l
  have hg : (fun l => iblk m c 0 (begins k) (ix2 0 l)) = _ := funext fun l => g_at m c _ l
  exact congrFun (congr (congrArg rmsRow hx) hg) _

/-- The contribution of each hidden feature to it. -/
abbrev parts (c : Dev nD) (k : ℕ) (r : Fin 1024) : Fin 5632 → Fin 2048 → EReal :=
  contrib (m ((c : Thread nD τ).loc main_arg2)) (m ((c : Thread nD τ).loc main_arg3)) (m ((c : Thread nD τ).loc main_arg4)) (hRow m c k r)

/-- A block's contribution. -/
theorem part_at (c : Dev nD) (t : Fin cfg0.N) (h : Fin 2048 → EReal) (j : Fin 512) (n : Fin 2048) :
    feature h (fun k => iblk m c 1 t (ix3 0 k j)) (fun k => iblk m c 2 t (ix3 0 k j)) * iblk m c 3 t (ix3 0 j n)
      = contrib (m ((c : Thread nD τ).loc main_arg2)) (m ((c : Thread nD τ).loc main_arg3)) (m ((c : Thread nD τ).loc main_arg4)) h
          (featureOf (t.val % 11) j) n := by
  have hg : (fun k => iblk m c 1 t (ix3 0 k j)) = _ := funext fun k => wg_at m c t k j
  have hu : (fun k => iblk m c 2 t (ix3 0 k j)) = _ := funext fun k => wu_at m c t k j
  exact congrArg₂ (· * ·) (congr (congrArg (feature h) hg) hu) (wd_at m c t j n)

/-- The partial sum where a tile begins, -/
theorem sum_begin (c : Dev nD) (t : Fin cfg0.N) (h : t.val % 11 = 0) (r : Fin 1024) (l : Fin 2048) :
    sumAt m c t.val t.isLt (ix2 r l) = partRow (xRow m c (t.val / 11) r) (parts m c (t.val / 11) r) (t.val % 11 + 1) l := by
  rw [sumAt_begin m c t h, firstSum_apply, h, partRow_one]
  have hx : (fun l => xT m c (t.val / 11) (ix2 r l)) = _ := funext fun l => x_at m c (t.val / 11) r l
  have hg : (fun l => iblk m c 0 t (ix2 0 l)) = _ := funext fun l => g_at m c t l
  have hr : rmsRow (fun l => xT m c (t.val / 11) (ix2 r l)) (fun l => iblk m c 0 t (ix2 0 l)) = hRow m c (t.val / 11) r :=
    congr (congrArg rmsRow hx) hg
  refine congrArg₂ (· + ·) (x_at m c (t.val / 11) r l) (Finset.sum_congr rfl fun j _ => ?_)
  refine (part_at m c t _ j l).trans ?_
  rw [h]
  exact congrArg (fun q => contrib _ _ _ q _ _) hr

/-- and at every other point. -/
theorem sum_next (c : Dev nD) (t : Fin cfg0.N) (h : t.val % 11 ≠ 0) (r : Fin 1024) (l : Fin 2048)
    (ih : sumAt m c (prev t).val (prev t).isLt (ix2 r l) = partRow (xRow m c (t.val / 11) r) (parts m c (t.val / 11) r) (t.val % 11) l) :
    sumAt m c t.val t.isLt (ix2 r l) = partRow (xRow m c (t.val / 11) r) (parts m c (t.val / 11) r) (t.val % 11 + 1) l := by
  rw [sumAt_next m c t h, nextSum_apply, partRow_succ, ih]
  have hr : (fun l => hT m c (t.val / 11) (ix2 r l)) = hRow m c (t.val / 11) r := funext fun l => h_at m c (t.val / 11) r l
  refine congrArg₂ (· + ·) rfl (Finset.sum_congr rfl fun j _ => ?_)
  refine (part_at m c t _ j l).trans ?_
  exact congrArg (fun q => contrib _ _ _ q _ _) hr

/-- The partial sum after a point. -/
theorem sum_at (c : Dev nD) (n : ℕ) (hn : n < cfg0.N) (r : Fin 1024) (l : Fin 2048) :
    sumAt m c n hn (ix2 r l) = partRow (xRow m c (n / 11) r) (parts m c (n / 11) r) (n % 11 + 1) l := by
  induction n with
  | zero => exact sum_begin m c ⟨0, hn⟩ rfl r l
  | succ n ih =>
    by_cases h : (n + 1) % 11 = 0
    · exact sum_begin m c ⟨n + 1, hn⟩ h r l
    · refine sum_next m c ⟨n + 1, hn⟩ h r l ?_
      have h1 : (n + 1) % 11 = n % 11 + 1 := by omega
      have h2 : (n + 1) / 11 = n / 11 := by omega
      show sumAt m c n _ (ix2 r l) = partRow (xRow m c ((n + 1) / 11) r) (parts m c ((n + 1) / 11) r) ((n + 1) % 11) l
      rw [h1, h2]
      exact ih _

/-! ## The result arrays -/

/-- The sum a tile ends with. -/
theorem row_at (c : Dev nD) (t : Fin cfg0.N) (ht : t.val % 11 = 10) (r : Fin 1024) :
    (fun k => sumAt m c t.val t.isLt (ix2 r k)) = feedRow (xRow m c (t.val / 11) r) (parts m c (t.val / 11) r) :=
  funext fun k => (sum_at m c t.val t.isLt r k).trans (by rw [ht, partRow_all])

theorem out_at (c : Dev nD) (t : Fin cfg0.N) (ht : t.val % 11 = 10) (y : S1024x2048.Idx) (i : S8192x2048.Idx)
    (h0 : i 0 = flatRow (t.val / 11) (y 0)) (h1 : i 1 = y 1) :
    sumAt m c t.val t.isLt y = Cert.FfnFirstRefIdeal.Read.val_main_v35 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) i := by
  rw [Cert.FfnFirstRefIdeal.Value.result, h0, h1]
  exact (congrArg (sumAt m c t.val t.isLt) (eq_ix2 y)).trans (congrFun (row_at m c t ht (y 0)) (y 1))

theorem scale_at (c : Dev nD) (t : Fin cfg0.N) (ht : t.val % 11 = 10) (y : S1024x128.Idx) (i : S8192x128.Idx)
    (h0 : i 0 = flatRow (t.val / 11) (y 0)) :
    scaleAt m c t y = Cert.FfnFirstRefIdeal.Read.val_main_v37 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) i := by
  unfold scaleAt
  rw [Cert.FfnFirstRefIdeal.Value.scales, lastScale_apply, ← sumAt_next m c t (by omega), h0]
  exact congrArg rowScale (row_at m c t ht (y 0))

/-- The first result array holds the reference's first result, -/
theorem out_ffn (c : Dev nD) : (dats m 0 c).arrAt 5 cfg0.N
    = Cert.FfnFirstRefIdeal.Read.val_main_v35 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  have ht : t.val % 11 = 10 := of_decide_eq_true ((flush5 t).symm.trans hf)
  have h88 := lt88 t
  refine out_at m c t ht y _ (Fin.ext ?_) (Fin.ext ?_)
  · show _ = 1024 * min (t.val / 11) 7 + (y 0).val
    blk_simp [idx5 t]
    omega
  · blk_simp [idx5 t]

/-- and the second its second. -/
theorem out_scale (c : Dev nD) : (dats m 0 c).arrAt 6 cfg0.N
    = Cert.FfnFirstRefIdeal.Read.val_main_v37 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 6 _ (by decide +kernel) fun t hf y => ?_
  have ht : t.val % 11 = 10 := of_decide_eq_true ((flush6 t).symm.trans hf)
  have h88 := lt88 t
  refine scale_at m c t ht y _ (Fin.ext ?_)
  show _ = 1024 * min (t.val / 11) 7 + (y 0).val
  blk_simp [idx6 t]
  omega

end Cert.FfnFirstIdeal.Value

end
-- ==== Proof.FfnFirst.Claims.lean ====
/- The claims on the first layer's feed-forward part: both programs end with their semaphores at zero and their arguments as they
   were, the reference too, and over the extended reals the kernel's results are the reference's. -/
module

public import proofs.«01_k».proof.Defs
public import proofs.«01_k».proof.Proof.Gen.FfnFirst
public import proofs.«01_k».proof.Proof.Gen.FfnFirstIdeal
public import proofs.«01_k».proof.Proof.Gen.FfnFirstRefIdeal
public import proofs.«01_k».proof.Proof.Gen.FfnFirstRefIdeal.Run
public import proofs.«01_k».proof.Proof.Gen.FfnFirstRefIdeal.Read
public import proofs.«01_k».proof.Proof.FfnFirst.Arrays
public import Idealize.ShloMosaic.Adequacy
public import Idealize.ShloMosaic.Init

@[expose] public section

noncomputable section

namespace Cert.Proof

open Idealize.ShloMosaic Idealize.ShloMosaic.Tactic Idealize.SL.Sem

/-- The kernel's frame: its text is the one run over any floats. -/
theorem frame_ffn_first : Cert.quiescent_FfnFirst (hFfnFirst := Cert.FfnFirst.Gen.facts) := fun m ρ _ =>
  Eq.mp (by sl_kernel_rfl) (Cert.FfnFirstIdeal.Value.frame (F := Bits) m ρ)

/-- The same run over the extended reals. -/
theorem frame_ffn_first_ideal : Cert.quiescent_FfnFirstIdeal (hFfnFirstIdeal := Cert.FfnFirstIdeal.Gen.facts) := fun m ρ _ =>
  Cert.FfnFirstIdeal.Value.frame (F := Ideal) m ρ

/-- The reference's frame. -/
theorem frame_ffn_first_ref : Cert.quiescent_FfnFirstRefIdeal (hFfnFirstRefIdeal := Cert.FfnFirstRefIdeal.Gen.facts) := fun m ρ _ =>
  (θ_run Cert.FfnFirstRefIdeal.defs _ _).mono
    (fun r h => ⟨fun c => (h c).2.2, Idealize.ShloMosaic.sem_eq_zero_of_no_sems (by decide) r.2⟩)
    (Cert.FfnFirstRefIdeal.Value.run (F := Ideal) m ρ)

/-- The kernel's results after its run. -/
theorem run_ffn_first (m : (ℓ : Loc Cert.FfnFirstIdeal.nD Cert.FfnFirstIdeal.τ Cert.FfnFirstIdeal.sig) → Buf (Elt Ideal) ℓ)
    (ρ : Dev Cert.FfnFirstIdeal.nD → PrngReg) :
    θ_run (Cert.FfnFirstIdeal.defs (F := Ideal)) (onTc (τ := Cert.FfnFirstIdeal.τ) (Cert.FfnFirstIdeal.main (F := Ideal))) ⟨m, fun _ => 0, ρ⟩
      (fun r => ∀ c : Dev Cert.FfnFirstIdeal.nD,
        r.2.mem ((c.tc : Thread Cert.FfnFirstIdeal.nD Cert.FfnFirstIdeal.τ).loc Cert.FfnFirstIdeal.main_v5_0)
            = (Cert.FfnFirstIdeal.Value.dats m 0 c).arrAt 5 Cert.FfnFirstIdeal.cfg0.N
          ∧ r.2.mem ((c.tc : Thread Cert.FfnFirstIdeal.nD Cert.FfnFirstIdeal.τ).loc Cert.FfnFirstIdeal.main_v5_1)
            = (Cert.FfnFirstIdeal.Value.dats m 0 c).arrAt 6 Cert.FfnFirstIdeal.cfg0.N) :=
  (θ_run Cert.FfnFirstIdeal.defs _ _).mono (fun _ h c => ⟨(h c).1 5, (h c).1 6⟩) (Cert.FfnFirstIdeal.Value.run_main m ρ)

/-- The rows with their feed-forward, and their reciprocal root mean squares, are the reference's. -/
theorem algebraic_ffn_first : Cert.algebraic_FfnFirstIdeal_FfnFirstRefIdeal (hFfnFirstIdeal := Cert.FfnFirstIdeal.Gen.facts)
    (hFfnFirstRefIdeal := Cert.FfnFirstRefIdeal.Gen.facts) := by
  intro m ρ m' ρ' _ hargs
  refine ⟨fun c => (Cert.FfnFirstIdeal.Value.dats m 0 c).arrAt 5 Cert.FfnFirstIdeal.cfg0.N,
    fun c => (Cert.FfnFirstIdeal.Value.dats m 0 c).arrAt 6 Cert.FfnFirstIdeal.cfg0.N,
    (θ_run Cert.FfnFirstIdeal.defs _ _).mono (fun _ h c => ⟨(h.1 c).1, (h.1 c).2, h.2.1 c⟩)
      (θ_run_and (run_ffn_first m ρ) (Cert.FfnFirstIdeal.Value.frame m ρ)),
    (θ_run Cert.FfnFirstRefIdeal.defs _ _).mono (fun _ h c => ⟨?_, ?_, (h c).2.2⟩) (Cert.FfnFirstRefIdeal.Value.run (F := Ideal) m' ρ')⟩
  · obtain ⟨h0, h1, h2, h3, h4, h5⟩ := hargs c
    rw [(h c).1, Cert.FfnFirstRefIdeal.Read.val_main_v35_eq, h0, h1, h2, h3, h4]
    exact (Cert.FfnFirstIdeal.Value.out_ffn m c).symm
  · obtain ⟨h0, h1, h2, h3, h4, h5⟩ := hargs c
    rw [(h c).2.1, Cert.FfnFirstRefIdeal.Read.val_main_v37_eq, h0, h1, h2, h3, h4]
    exact (Cert.FfnFirstIdeal.Value.out_scale m c).symm

end Cert.Proof

end
-- ==== Proof.MixOut.Values.lean ====
/- What the projection after the mixing branches stores and what its reference computes, over the extended reals, at an
   element. -/
module

public import proofs.«01_k».proof.Proof.Gen.MixOutIdeal.Frame
public import proofs.«01_k».proof.Proof.Gen.MixOutIdeal.Skeleton
public import proofs.«01_k».proof.Proof.Gen.MixOutRefIdeal.Read
public import proofs.«01_k».proof.Proof.Ffn.Math
public import Idealize.ShloMosaic.Lib.Pointwise
public import Idealize.ShloMosaic.Lib.Pipeline.ValueKit

@[expose] public section

set_option maxRecDepth 16384

noncomputable section

namespace Cert.MixOutIdeal.Value

open Idealize.ShloMosaic Idealize.ShloMosaic.TcCoe Idealize.ShloMosaic.Tactic
open Cert.MixOutIdeal.Gen

/-- The two halves of 2048 features. -/
def low (k : Fin 1024) : Fin 2048 := ⟨k.val, by omega⟩
def high (k : Fin 1024) : Fin 2048 := ⟨1024 + k.val, by omega⟩

/-- A sum over the features, by halves. -/
theorem sum_halves (f : Fin 2048 → EReal) : ∑ k, f k = ∑ k, f (low k) + ∑ k, f (high k) :=
  Fin.sum_univ_add (a := 1024) (b := 1024) f

/-- The block stored at a point, from the blocks read there. -/
theorem stored (y z : Vec Ideal S512x1024 .bf16) (w : Vec Ideal S2048x2048 .bf16) (x : Vec Ideal S512x2048 .f32) (j : S512x2048.Idx) :
    out0_4 y z w x j = x j + (∑ k : Fin 1024, y (ix2 (j 0) k) * w (ix2 (low k) (j 1)))
      + ∑ k : Fin 1024, z (ix2 (j 0) k) * w (ix2 (high k) (j 1)) := by
  have e : out0_4 y z w x = k0_pay1 x y (View.ld w r0_2) z (View.ld w r0_3) := by
    unfold out0_4
    rw [View.canon_cons_unit_lit _ _ _ (by decide), View.ld_unit_lit _ x (by decide), View.ld_unit_lit _ y (by decide),
      View.ld_unit_lit _ z (by decide)]
  have el : ∀ k : Fin 1024, View.ld w r0_2 (ix2 k (j 1)) = w (ix2 (low k) (j 1)) := fun k =>
    View.ld_unit_apply_of w _ _ _ _ _ fun a => by fin_cases a <;> (show _ = 0 + _; rw [Nat.zero_add]; rfl)
  have eh : ∀ k : Fin 1024, View.ld w r0_3 (ix2 k (j 1)) = w (ix2 (high k) (j 1)) := fun k =>
    View.ld_unit_apply_of w _ _ _ _ _ fun a => by
      fin_cases a
      · rfl
      · show _ = 0 + _; rw [Nat.zero_add]; rfl
  rw [e]
  generalize View.ld w r0_2 = wl at el
  generalize View.ld w r0_3 = wh at eh
  unfold k0_pay1
  pointwise
  exact congrArg₂ (· + ·) (congrArg₂ (· + ·) rfl (Finset.sum_congr rfl fun k _ => congrArg (_ * ·) (el k)))
    (Finset.sum_congr rfl fun k _ => congrArg (_ * ·) (eh k))

end Cert.MixOutIdeal.Value

namespace Cert.MixOutRefIdeal.Value

open Idealize.ShloMosaic Idealize.ShloMosaic.TcCoe Idealize.ShloMosaic.Tactic
open Cert.MixOutRefIdeal.Read
open Cert.FfnMath (batchOf placeOf)
open Cert.MixOutIdeal.Value (low high sum_halves)

variable (x0 : (⟨S4x2048x1024, .bf16⟩ : BufTy).Contents (Elt Ideal)) (x1 : (⟨S8192x1024, .bf16⟩ : BufTy).Contents (Elt Ideal))
  (x2 : (⟨S2048x2048, .bf16⟩ : BufTy).Contents (Elt Ideal)) (x3 : (⟨S4x2048x2048, .f32⟩ : BufTy).Contents (Elt Ideal))

/-- The branches side by side: the convolution's features in the lower half, -/
theorem joined_low (b : Fin 4) (p : Fin 2048) (k : Fin 1024) : val_main_v2 (F := Ideal) x0 x1 (ix3 b p (low k)) = x0 (ix3 b p k) := by
  unfold val_main_v2 val_main_v1 val_main_v0
  pointwise
  exact dif_pos k.isLt

/-- the gating unit's in the upper. -/
theorem joined_high (r : Fin 8192) (k : Fin 1024) : val_main_v2 (F := Ideal) x0 x1 (ix3 (batchOf r) (placeOf r) (high k)) = x1 (ix2 r k) := by
  unfold val_main_v2 val_main_v1 val_main_v0
  pointwise
  refine (dif_neg (show ¬ 1024 + k.val < 1024 by omega)).trans (congrArg x1 (congrArg₂ ix2 (Fin.ext ?_) (Fin.ext ?_)))
  · show r.val / 2048 * 2048 + r.val % 2048 = r.val
    omega
  · show 1024 + k.val - 1024 = k.val
    omega

/-- The reference's result. -/
theorem result (i : S8192x2048.Idx) :
    val_main_v6 (F := Ideal) x0 x1 x2 x3 i = x3 (ix3 (batchOf (i 0)) (placeOf (i 0)) (i 1))
      + ((∑ k : Fin 1024, x0 (ix3 (batchOf (i 0)) (placeOf (i 0)) k) * x2 (ix2 (low k) (i 1)))
        + ∑ k : Fin 1024, x1 (ix2 (i 0) k) * x2 (ix2 (high k) (i 1))) := by
  have hl := joined_low x0 x1 (batchOf (i 0)) (placeOf (i 0))
  have hh := joined_high x0 x1 (i 0)
  unfold val_main_v6 val_main_v5 val_main_v4 val_main_v3
  generalize val_main_v2 (F := Ideal) x0 x1 = z at hl hh
  pointwise
  refine (congrArg (_ + ·) (sum_halves _)).trans ?_
  exact congrArg₂ (· + ·) rfl (congrArg₂ (· + ·) (Finset.sum_congr rfl fun k _ => congrArg (· * _) (hl k))
    (Finset.sum_congr rfl fun k _ => congrArg (· * _) (hh k)))

end Cert.MixOutRefIdeal.Value

end
-- ==== Proof.MixOut.Arrays.lean ====
/- What the blocks of the projection after the mixing branches are read from, and what its result array holds in the end,
   over the extended reals. -/
module

public import proofs.«01_k».proof.Proof.MixOut.Values
public import Idealize.ShloMosaic.Lib.StableHlo.ReadAt

@[expose] public section

set_option maxRecDepth 16384

noncomputable section

namespace Cert.MixOutIdeal.Value

open Idealize.ShloMosaic Idealize.ShloMosaic.TcCoe Idealize.ShloMosaic.Tactic
open Idealize.ShloMosaic.Pipeline (Dat Cfg Window)
open Cert.MixOutIdeal.Gen
open Cert.FfnMath (batchOf placeOf)

variable (m : (ℓ : Loc nD τ sig) → Buf (Elt Ideal) ℓ)

/-! ## The arrays the kernel finds -/

theorem conv_at (c : Dev nD) (j : S8192x1024.Idx) :
    V m c main_v0 j = m ((c : Thread nD τ).loc main_arg0) (ix3 (batchOf (j 0)) (placeOf (j 0)) (j 1)) := by
  unfold V
  after_reads_at
  rfl
theorem act_at (c : Dev nD) (j : S8192x2048.Idx) :
    V m c main_v1 j = m ((c : Thread nD τ).loc main_arg3) (ix3 (batchOf (j 0)) (placeOf (j 0)) (j 1)) := by
  unfold V
  after_reads_at
  rfl

/-! ## The windows' blocks -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])

theorem lt16 (t : Fin cfg0.N) : t.val < 16 := Nat.lt_of_lt_of_eq t.isLt N_0

/-- The flat row that row `r` of the tile `t` of 512 is. -/
def rowOf (t : Fin cfg0.N) (r : Fin 512) : Fin 8192 := ⟨512 * t.val + r.val, by have := lt16 t; omega⟩

theorem y_at (c : Dev nD) (t : Fin cfg0.N) (r : Fin 512) (k : Fin 1024) : iblk m c 0 t (ix2 r k)
    = m ((c : Thread nD τ).loc main_arg0) (ix3 (batchOf (rowOf t r)) (placeOf (rowOf t r)) k) := by
  refine Eq.trans ?_ (conv_at m c (ix2 (rowOf t r) k))
  unfold iblk
  blk_ext [idx0 t, rowOf]

theorem z_at (c : Dev nD) (t : Fin cfg0.N) (r : Fin 512) (k : Fin 1024) : iblk m c 1 t (ix2 r k)
    = m ((c : Thread nD τ).loc main_arg1) (ix2 (rowOf t r) k) := by
  refine Eq.trans ?_ (congrFun (V_main_arg1 m c) _)
  unfold iblk
  blk_ext [idx1 t, rowOf]

theorem w_at (c : Dev nD) (t : Fin cfg0.N) (k n : Fin 2048) : iblk m c 2 t (ix2 k n)
    = m ((c : Thread nD τ).loc main_arg2) (ix2 k n) := by
  refine Eq.trans ?_ (congrFun (V_main_arg2 m c) _)
  unfold iblk
  blk_ext [idx2 t]

theorem x_at (c : Dev nD) (t : Fin cfg0.N) (r : Fin 512) (n : Fin 2048) : iblk m c 3 t (ix2 r n)
    = m ((c : Thread nD τ).loc main_arg3) (ix3 (batchOf (rowOf t r)) (placeOf (rowOf t r)) n) := by
  refine Eq.trans ?_ (act_at m c (ix2 (rowOf t r) n))
  unfold iblk
  blk_ext [idx3 t, rowOf]

/-! ## The result array -/

/-- The block stored at a point. -/
def outAt (c : Dev nD) (t : Fin cfg0.N) : Vec Ideal S512x2048 .f32 :=
  out0_4 (iblk m c 0 t) (iblk m c 1 t) (iblk m c 2 t) (iblk m c 3 t)

theorem out_at (c : Dev nD) (t : Fin cfg0.N) (y : S512x2048.Idx) (i : S8192x2048.Idx) (h0 : i 0 = rowOf t (y 0)) (h1 : i 1 = y 1) :
    outAt m c t y
      = Cert.MixOutRefIdeal.Read.val_main_v6 (F := Ideal) (m ((c : Thread nD τ).loc main_arg0))
        (m ((c : Thread nD τ).loc main_arg1)) (m ((c : Thread nD τ).loc main_arg2)) (m ((c : Thread nD τ).loc main_arg3)) i := by
  rw [Cert.MixOutRefIdeal.Value.result, outAt, stored, h0, h1, add_assoc]
  exact congrArg₂ (· + ·) (x_at m c t (y 0) (y 1)) (congrArg₂ (· + ·)
    (Finset.sum_congr rfl fun k _ => congrArg₂ (· * ·) (y_at m c t (y 0) k) (w_at m c t (low k) (y 1)))
    (Finset.sum_congr rfl fun k _ => congrArg₂ (· * ·) (z_at m c t (y 0) k) (w_at m c t (high k) (y 1))))

/-- The result array holds the reference's result. -/
theorem out_proj (c : Dev nD) : (dats m 0 c).arrAt 4 cfg0.N
    = Cert.MixOutRefIdeal.Read.val_main_v6 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  have h16 := lt16 t
  refine (congrFun (after0_4 m c t) y).trans (out_at m c t y _ (Fin.ext ?_) (Fin.ext ?_))
  · show _ = 512 * t.val + (y 0).val
    blk_simp [idx4 t]
    omega
  · blk_simp [idx4 t]

end Cert.MixOutIdeal.Value

end
-- ==== Proof.MixOut.Claims.lean ====
/- The claims on the projection after the mixing branches: both programs end with their semaphores at zero and their arguments as
   they were, the reference too, and over the extended reals the kernel's result is the reference's. -/
module

public import proofs.«01_k».proof.Defs
public import proofs.«01_k».proof.Proof.Gen.MixOut
public import proofs.«01_k».proof.Proof.Gen.MixOutIdeal
public import proofs.«01_k».proof.Proof.Gen.MixOutRefIdeal
public import proofs.«01_k».proof.Proof.Gen.MixOutRefIdeal.Run
public import proofs.«01_k».proof.Proof.Gen.MixOutRefIdeal.Read
public import proofs.«01_k».proof.Proof.MixOut.Arrays
public import Idealize.ShloMosaic.Adequacy
public import Idealize.ShloMosaic.Init

@[expose] public section

noncomputable section

namespace Cert.Proof

open Idealize.ShloMosaic Idealize.ShloMosaic.Tactic Idealize.SL.Sem

/-- The kernel's frame: its text is the one run over any floats. -/
theorem frame_mix_out : Cert.quiescent_MixOut (hMixOut := Cert.MixOut.Gen.facts) := fun m ρ _ =>
  Eq.mp (by sl_kernel_rfl) (Cert.MixOutIdeal.Gen.frame (F := Bits) m ρ)

/-- The same run over the extended reals. -/
theorem frame_mix_out_ideal : Cert.quiescent_MixOutIdeal (hMixOutIdeal := Cert.MixOutIdeal.Gen.facts) := fun m ρ _ =>
  Cert.MixOutIdeal.Gen.frame (F := Ideal) m ρ

/-- The reference's frame. -/
theorem frame_mix_out_ref : Cert.quiescent_MixOutRefIdeal (hMixOutRefIdeal := Cert.MixOutRefIdeal.Gen.facts) := fun m ρ _ =>
  (θ_run Cert.MixOutRefIdeal.defs _ _).mono
    (fun r h => ⟨fun c => (h c).2, Idealize.ShloMosaic.sem_eq_zero_of_no_sems (by decide) r.2⟩)
    (Cert.MixOutRefIdeal.Value.run (F := Ideal) m ρ)

/-- The kernel's result after its run. -/
theorem run_mix_out (m : (ℓ : Loc Cert.MixOutIdeal.nD Cert.MixOutIdeal.τ Cert.MixOutIdeal.sig) → Buf (Elt Ideal) ℓ)
    (ρ : Dev Cert.MixOutIdeal.nD → PrngReg) :
    θ_run (Cert.MixOutIdeal.defs (F := Ideal)) (onTc (τ := Cert.MixOutIdeal.τ) (Cert.MixOutIdeal.main (F := Ideal))) ⟨m, fun _ => 0, ρ⟩
      (fun r => ∀ c : Dev Cert.MixOutIdeal.nD,
        r.2.mem ((c.tc : Thread Cert.MixOutIdeal.nD Cert.MixOutIdeal.τ).loc Cert.MixOutIdeal.main_v2)
          = (Cert.MixOutIdeal.Gen.dats m 0 c).arrAt 4 Cert.MixOutIdeal.cfg0.N) :=
  (θ_run Cert.MixOutIdeal.defs _ _).mono (fun _ h c => (h c).1 4) (Cert.MixOutIdeal.Gen.run_main m ρ)

/-- The rows with the projection added are the reference's. -/
theorem algebraic_mix_out : Cert.algebraic_MixOutIdeal_MixOutRefIdeal (hMixOutIdeal := Cert.MixOutIdeal.Gen.facts)
    (hMixOutRefIdeal := Cert.MixOutRefIdeal.Gen.facts) := by
  intro m ρ m' ρ' _ hargs
  refine ⟨fun c => (Cert.MixOutIdeal.Gen.dats m 0 c).arrAt 4 Cert.MixOutIdeal.cfg0.N,
    (θ_run Cert.MixOutIdeal.defs _ _).mono (fun _ h c => ⟨h.1 c, h.2.1 c⟩)
      (θ_run_and (run_mix_out m ρ) (Cert.MixOutIdeal.Gen.frame m ρ)),
    (θ_run Cert.MixOutRefIdeal.defs _ _).mono (fun _ h c => ⟨?_, (h c).2⟩) (Cert.MixOutRefIdeal.Value.run (F := Ideal) m' ρ')⟩
  obtain ⟨h0, h1, h2, h3⟩ := hargs c
  rw [(h c).1, Cert.MixOutRefIdeal.Read.val_main_v6_eq, h0, h1, h2, h3]
  exact (Cert.MixOutIdeal.Value.out_proj m c).symm

end Cert.Proof

end
-- ==== Proof.FourierOut.Values.lean ====
/- What the projection after the Fourier mixing stores and what its reference computes, over the extended reals, at an
   element. -/
module

public import proofs.«01_k».proof.Proof.Gen.FourierOutIdeal.Frame
public import proofs.«01_k».proof.Proof.Gen.FourierOutIdeal.Skeleton
public import proofs.«01_k».proof.Proof.Gen.FourierOutRefIdeal.Read
public import proofs.«01_k».proof.Proof.Ffn.Math
public import Idealize.ShloMosaic.Lib.Pointwise
public import Idealize.ShloMosaic.Lib.Pipeline.ValueKit

@[expose] public section

set_option maxRecDepth 16384

noncomputable section

namespace Cert.FourierOutIdeal.Value

open Idealize.ShloMosaic Idealize.ShloMosaic.TcCoe Idealize.ShloMosaic.Tactic
open Cert.FourierOutIdeal.Gen

/-- The block stored at a point, from the blocks read there. -/
theorem stored (y : Vec Ideal S512x2048 .bf16) (w : Vec Ideal S2048x2048 .bf16) (x : Vec Ideal S512x2048 .f32) (b : Vec Ideal S1x2048 .f32)
    (j : S512x2048.Idx) :
    out0_4 y w x b j = x j + b (ix2 0 (j 1)) + ∑ k : Fin 2048, y (ix2 (j 0) k) * w (ix2 k (j 1)) := by
  have e : out0_4 y w x b = k0_pay1 x b y w := by
    unfold out0_4
    rw [View.canon_cons_unit_lit _ _ _ (by decide), View.ld_unit_lit _ _ (by decide), View.ld_unit_lit _ _ (by decide),
      View.ld_unit_lit _ _ (by decide), View.ld_unit_lit _ _ (by decide)]
  rw [e]
  unfold k0_pay1
  pointwise

end Cert.FourierOutIdeal.Value

namespace Cert.FourierOutRefIdeal.Value

open Idealize.ShloMosaic Idealize.ShloMosaic.TcCoe Idealize.ShloMosaic.Tactic
open Cert.FourierOutRefIdeal.Read
open Cert.FfnMath (batchOf placeOf)

/-- The reference's result. -/
theorem result (x0 : (⟨S4x2048x2048, .bf16⟩ : BufTy).Contents (Elt Ideal)) (x1 : (⟨S2048x2048, .bf16⟩ : BufTy).Contents (Elt Ideal))
    (x2 : (⟨S1x2048, .f32⟩ : BufTy).Contents (Elt Ideal)) (x3 : (⟨S8192x2048, .f32⟩ : BufTy).Contents (Elt Ideal)) (i : S8192x2048.Idx) :
    val_main_v8 (F := Ideal) x0 x1 x2 x3 i
      = x3 i + (∑ k : Fin 2048, x0 (ix3 (batchOf (i 0)) (placeOf (i 0)) k) * x1 (ix2 k (i 1))) + x2 (ix2 0 (i 1)) := by
  unfold val_main_v8 val_main_v7 val_main_v6 val_main_v5 val_main_v4 val_main_v3 val_main_v2 val_main_v1 val_main_v0
  pointwise
  rfl

end Cert.FourierOutRefIdeal.Value

end
-- ==== Proof.FourierOut.Arrays.lean ====
/- What the blocks of the projection after the Fourier mixing are read from, and what its result array holds in the end,
   over the extended reals. -/
module

public import proofs.«01_k».proof.Proof.FourierOut.Values
public import Idealize.ShloMosaic.Lib.StableHlo.ReadAt

@[expose] public section

set_option maxRecDepth 16384

noncomputable section

namespace Cert.FourierOutIdeal.Value

open Idealize.ShloMosaic Idealize.ShloMosaic.TcCoe Idealize.ShloMosaic.Tactic
open Idealize.ShloMosaic.Pipeline (Dat Cfg Window)
open Cert.FourierOutIdeal.Gen
open Cert.FfnMath (batchOf placeOf)

variable (m : (ℓ : Loc nD τ sig) → Buf (Elt Ideal) ℓ)

/-! ## The arrays the kernel finds -/

theorem mixed_at (c : Dev nD) (j : S8192x2048.Idx) :
    V m c main_v0 j = m ((c : Thread nD τ).loc main_arg0) (ix3 (batchOf (j 0)) (placeOf (j 0)) (j 1)) := by
  unfold V
  after_reads_at
  rfl
theorem bias_at (c : Dev nD) (j : S1x2048.Idx) :
    V m c main_v2 j = m ((c : Thread nD τ).loc main_arg2) (ix2 0 (j 1)) := by
  unfold V
  after_reads_at

/-! ## The windows' blocks -/

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])

theorem lt16 (t : Fin cfg0.N) : t.val < 16 := Nat.lt_of_lt_of_eq t.isLt N_0

/-- The flat row that row `r` of the tile `t` of 512 is. -/
def rowOf (t : Fin cfg0.N) (r : Fin 512) : Fin 8192 := ⟨512 * t.val + r.val, by have := lt16 t; omega⟩

theorem y_at (c : Dev nD) (t : Fin cfg0.N) (r : Fin 512) (k : Fin 2048) : iblk m c 0 t (ix2 r k)
    = m ((c : Thread nD τ).loc main_arg0) (ix3 (batchOf (rowOf t r)) (placeOf (rowOf t r)) k) := by
  refine Eq.trans ?_ (mixed_at m c (ix2 (rowOf t r) k))
  unfold iblk
  blk_ext [idx0 t, rowOf]

theorem w_at (c : Dev nD) (t : Fin cfg0.N) (k n : Fin 2048) : iblk m c 1 t (ix2 k n)
    = m ((c : Thread nD τ).loc main_arg1) (ix2 k n) := by
  refine Eq.trans ?_ (congrFun (V_main_arg1 m c) _)
  unfold iblk
  blk_ext [idx1 t]

theorem x_at (c : Dev nD) (t : Fin cfg0.N) (r : Fin 512) (n : Fin 2048) : iblk m c 2 t (ix2 r n)
    = m ((c : Thread nD τ).loc main_arg3) (ix2 (rowOf t r) n) := by
  refine Eq.trans ?_ (congrFun (V_main_arg3 m c) _)
  unfold iblk
  blk_ext [idx2 t, rowOf]

theorem b_at (c : Dev nD) (t : Fin cfg0.N) (n : Fin 2048) : iblk m c 3 t (ix2 0 n)
    = m ((c : Thread nD τ).loc main_arg2) (ix2 0 n) := by
  refine Eq.trans ?_ (bias_at m c (ix2 0 n))
  unfold iblk
  blk_ext [idx3 t]

/-! ## The result array -/

/-- The block stored at a point. -/
def outAt (c : Dev nD) (t : Fin cfg0.N) : Vec Ideal S512x2048 .f32 :=
  out0_4 (iblk m c 0 t) (iblk m c 1 t) (iblk m c 2 t) (iblk m c 3 t)

theorem out_at (c : Dev nD) (t : Fin cfg0.N) (y : S512x2048.Idx) (i : S8192x2048.Idx) (h0 : i 0 = rowOf t (y 0)) (h1 : i 1 = y 1) :
    outAt m c t y
      = Cert.FourierOutRefIdeal.Read.val_main_v8 (F := Ideal) (m ((c : Thread nD τ).loc main_arg0))
        (m ((c : Thread nD τ).loc main_arg1)) (m ((c : Thread nD τ).loc main_arg2)) (m ((c : Thread nD τ).loc main_arg3)) i := by
  rw [Cert.FourierOutRefIdeal.Value.result, outAt, stored, h0, h1, eq_ix2 y, eq_ix2 i, h0, h1, add_right_comm]
  exact congrArg₂ (· + ·) (congrArg₂ (· + ·) (x_at m c t (y 0) (y 1))
    (Finset.sum_congr rfl fun k _ => congrArg₂ (· * ·) (y_at m c t (y 0) k) (w_at m c t k (y 1)))) (b_at m c t (y 1))

/-- The result array holds the reference's result. -/
theorem out_proj (c : Dev nD) : (dats m 0 c).arrAt 4 cfg0.N
    = Cert.FourierOutRefIdeal.Read.val_main_v8 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  have h16 := lt16 t
  refine (congrFun (after0_4 m c t) y).trans (out_at m c t y _ (Fin.ext ?_) (Fin.ext ?_))
  · show _ = 512 * t.val + (y 0).val
    blk_simp [idx4 t]
    omega
  · blk_simp [idx4 t]

end Cert.FourierOutIdeal.Value

end
-- ==== Proof.FourierOut.Claims.lean ====
/- The claims on the projection after the Fourier mixing: both programs end with their semaphores at zero and their arguments as
   they were, the reference too, and over the extended reals the kernel's result is the reference's. -/
module

public import proofs.«01_k».proof.Defs
public import proofs.«01_k».proof.Proof.Gen.FourierOut
public import proofs.«01_k».proof.Proof.Gen.FourierOutIdeal
public import proofs.«01_k».proof.Proof.Gen.FourierOutRefIdeal
public import proofs.«01_k».proof.Proof.Gen.FourierOutRefIdeal.Run
public import proofs.«01_k».proof.Proof.Gen.FourierOutRefIdeal.Read
public import proofs.«01_k».proof.Proof.FourierOut.Arrays
public import Idealize.ShloMosaic.Adequacy
public import Idealize.ShloMosaic.Init

@[expose] public section

noncomputable section

namespace Cert.Proof

open Idealize.ShloMosaic Idealize.ShloMosaic.Tactic Idealize.SL.Sem

/-- The kernel's frame: its text is the one run over any floats. -/
theorem frame_fourier_out : Cert.quiescent_FourierOut (hFourierOut := Cert.FourierOut.Gen.facts) := fun m ρ _ =>
  Eq.mp (by sl_kernel_rfl) (Cert.FourierOutIdeal.Gen.frame (F := Bits) m ρ)

/-- The same run over the extended reals. -/
theorem frame_fourier_out_ideal : Cert.quiescent_FourierOutIdeal (hFourierOutIdeal := Cert.FourierOutIdeal.Gen.facts) := fun m ρ _ =>
  Cert.FourierOutIdeal.Gen.frame (F := Ideal) m ρ

/-- The reference's frame. -/
theorem frame_fourier_out_ref : Cert.quiescent_FourierOutRefIdeal (hFourierOutRefIdeal := Cert.FourierOutRefIdeal.Gen.facts) := fun m ρ _ =>
  (θ_run Cert.FourierOutRefIdeal.defs _ _).mono
    (fun r h => ⟨fun c => (h c).2, Idealize.ShloMosaic.sem_eq_zero_of_no_sems (by decide) r.2⟩)
    (Cert.FourierOutRefIdeal.Value.run (F := Ideal) m ρ)

/-- The kernel's result after its run. -/
theorem run_fourier_out (m : (ℓ : Loc Cert.FourierOutIdeal.nD Cert.FourierOutIdeal.τ Cert.FourierOutIdeal.sig) → Buf (Elt Ideal) ℓ)
    (ρ : Dev Cert.FourierOutIdeal.nD → PrngReg) :
    θ_run (Cert.FourierOutIdeal.defs (F := Ideal)) (onTc (τ := Cert.FourierOutIdeal.τ) (Cert.FourierOutIdeal.main (F := Ideal))) ⟨m, fun _ => 0, ρ⟩
      (fun r => ∀ c : Dev Cert.FourierOutIdeal.nD,
        r.2.mem ((c.tc : Thread Cert.FourierOutIdeal.nD Cert.FourierOutIdeal.τ).loc Cert.FourierOutIdeal.main_v3)
          = (Cert.FourierOutIdeal.Gen.dats m 0 c).arrAt 4 Cert.FourierOutIdeal.cfg0.N) :=
  (θ_run Cert.FourierOutIdeal.defs _ _).mono (fun _ h c => (h c).1 4) (Cert.FourierOutIdeal.Gen.run_main m ρ)

/-- The rows with the projection added are the reference's. -/
theorem algebraic_fourier_out : Cert.algebraic_FourierOutIdeal_FourierOutRefIdeal (hFourierOutIdeal := Cert.FourierOutIdeal.Gen.facts)
    (hFourierOutRefIdeal := Cert.FourierOutRefIdeal.Gen.facts) := by
  intro m ρ m' ρ' _ hargs
  refine ⟨fun c => (Cert.FourierOutIdeal.Gen.dats m 0 c).arrAt 4 Cert.FourierOutIdeal.cfg0.N,
    (θ_run Cert.FourierOutIdeal.defs _ _).mono (fun _ h c => ⟨h.1 c, h.2.1 c⟩)
      (θ_run_and (run_fourier_out m ρ) (Cert.FourierOutIdeal.Gen.frame m ρ)),
    (θ_run Cert.FourierOutRefIdeal.defs _ _).mono (fun _ h c => ⟨?_, (h c).2⟩) (Cert.FourierOutRefIdeal.Value.run (F := Ideal) m' ρ')⟩
  obtain ⟨h0, h1, h2, h3⟩ := hargs c
  rw [(h c).1, Cert.FourierOutRefIdeal.Read.val_main_v8_eq, h0, h1, h2, h3]
  exact (Cert.FourierOutIdeal.Value.out_proj m c).symm

end Cert.Proof

end
-- ==== Proof.Fourier.Claims.lean ====
/- The claims on the Fourier mixing: both programs end with their semaphores at zero and their arguments as they were. -/
module

public import proofs.«01_k».proof.Defs
public import proofs.«01_k».proof.Proof.Gen.Fourier
public import proofs.«01_k».proof.Proof.Gen.FourierIdeal
public import proofs.«01_k».proof.Proof.Gen.FourierIdeal.Frame

@[expose] public section

noncomputable section

namespace Cert.Proof

open Idealize.ShloMosaic Idealize.ShloMosaic.Tactic Idealize.SL.Sem

/-- The kernel's frame: its text is the one run over any floats. -/
theorem frame_fourier : Cert.quiescent_Fourier (hFourier := Cert.Fourier.Gen.facts) := fun m ρ _ =>
  Eq.mp (by sl_kernel_rfl) (Cert.FourierIdeal.Gen.frame (F := Bits) m ρ)

/-- The same run over the extended reals. -/
theorem frame_fourier_ideal : Cert.quiescent_FourierIdeal (hFourierIdeal := Cert.FourierIdeal.Gen.facts) := fun m ρ _ =>
  Cert.FourierIdeal.Gen.frame (F := Ideal) m ρ

end Cert.Proof

end
-- ==== Proof.lean ====
module

public import proofs.«01_k».proof.Defs
public import proofs.«01_k».proof.Proof.Sgu.Claims
public import proofs.«01_k».proof.Proof.Ffn.Claims
public import proofs.«01_k».proof.Proof.FfnFirst.Claims
public import proofs.«01_k».proof.Proof.MixOut.Claims
public import proofs.«01_k».proof.Proof.FourierOut.Claims
public import proofs.«01_k».proof.Proof.Fourier.Claims
public import proofs.«01_k».proof.Proof.Gen.FfnFirst
public import proofs.«01_k».proof.Proof.Gen.FfnFirstIdeal
public import proofs.«01_k».proof.Proof.Gen.FfnFirstIdeal.Frame
public import proofs.«01_k».proof.Proof.Gen.FfnFirstIdeal.Skeleton
public import proofs.«01_k».proof.Proof.Gen.FfnFirstRefIdeal
public import proofs.«01_k».proof.Proof.Gen.FfnFirstRefIdeal.Run
public import proofs.«01_k».proof.Proof.Gen.FfnFirstRefIdeal.Read
public import proofs.«01_k».proof.Proof.Gen.MixOut
public import proofs.«01_k».proof.Proof.Gen.MixOutIdeal
public import proofs.«01_k».proof.Proof.Gen.MixOutIdeal.Frame
public import proofs.«01_k».proof.Proof.Gen.MixOutIdeal.Skeleton
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.FourierOut
public import proofs.«01_k».proof.Proof.Gen.FourierOutIdeal
public import proofs.«01_k».proof.Proof.Gen.FourierOutIdeal.Frame
public import proofs.«01_k».proof.Proof.Gen.FourierOutIdeal.Skeleton
public import proofs.«01_k».proof.Proof.Gen.FourierOutRefIdeal
public import proofs.«01_k».proof.Proof.Gen.FourierOutRefIdeal.Run
public import proofs.«01_k».proof.Proof.Gen.FourierOutRefIdeal.Read
public import proofs.«01_k».proof.Proof.Gen.Fourier
public import proofs.«01_k».proof.Proof.Gen.FourierIdeal
public import proofs.«01_k».proof.Proof.Gen.FourierIdeal.Frame
public import proofs.«01_k».proof.Proof.Gen.FourierIdeal.Skeleton

@[expose] public section

noncomputable section

namespace Cert.Proof

theorem claim : Cert.Claim := ⟨Cert.Sgu.Gen.facts, Cert.SguIdeal.Gen.facts, Cert.SguRefIdeal.Gen.facts,
  Cert.Ffn.Gen.facts, Cert.FfnIdeal.Gen.facts, Cert.FfnRefIdeal.Gen.facts,
  Cert.FfnFirst.Gen.facts, Cert.FfnFirstIdeal.Gen.facts, Cert.FfnFirstRefIdeal.Gen.facts,
  Cert.MixOut.Gen.facts, Cert.MixOutIdeal.Gen.facts, Cert.MixOutRefIdeal.Gen.facts,
  Cert.FourierOut.Gen.facts, Cert.FourierOutIdeal.Gen.facts, Cert.FourierOutRefIdeal.Gen.facts,
  Cert.Fourier.Gen.facts, Cert.FourierIdeal.Gen.facts,
  frame_sgu, frame_sgu_ideal, frame_sgu_ref,
  frame_ffn, frame_ffn_ideal, frame_ffn_ref,
  frame_ffn_first, frame_ffn_first_ideal, frame_ffn_first_ref,
  frame_mix_out, frame_mix_out_ideal, frame_mix_out_ref,
  frame_fourier_out, frame_fourier_out_ideal, frame_fourier_out_ref,
  frame_fourier, frame_fourier_ideal,
  trivial, algebraic_sgu, trivial, algebraic_ffn, trivial, algebraic_ffn_first, trivial, algebraic_mix_out, trivial, algebraic_fourier_out, trivial⟩

end Cert.Proof

end
